-- ==== Defs.lean ====
def Pre_Kernel [hPre_rows_of_table : Cert.Pre_rows_of_table.Facts] (m : (ℓ : Loc Cert.Kernel.nD Cert.Kernel.τ Cert.Kernel.sig) → Buf (Elt Bits) ℓ) : Prop :=
  ∀ c : Dev Cert.Kernel.nD,
    (Cert.Pre_rows_of_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_of_table : Cert.Pre_rows_of_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_of_table [hPre_rows_of_table : Cert.Pre_rows_of_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_of_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_of_table : Cert.Pre_rows_of_table.Facts] (m : (ℓ : Loc Cert.Reference.nD Cert.Reference.τ Cert.Reference.sig) → Buf (Elt Bits) ℓ) : Prop :=
  ∀ c : Dev Cert.Reference.nD,
    (Cert.Pre_rows_of_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_blocks_of_experts : Cert.Pre_blocks_of_experts.Facts] (m : (ℓ : Loc Cert.Kernel2.nD Cert.Kernel2.τ Cert.Kernel2.sig) → Buf (Elt Bits) ℓ) : Prop :=
  ∀ c : Dev Cert.Kernel2.nD,
    (Cert.Pre_blocks_of_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_blocks_of_experts : Cert.Pre_blocks_of_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_of_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_of_experts [hPre_blocks_of_experts : Cert.Pre_blocks_of_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_of_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_rows_of_table : Cert.Pre_rows_of_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_of_table : Cert.Pre_rows_of_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_of_table [hReferenceIdeal : Cert.ReferenceIdeal.Facts] [hPre_rows_of_table : Cert.Pre_rows_of_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_of_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_of_table : Cert.Pre_rows_of_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_blocks_of_experts : Cert.Pre_blocks_of_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_blocks_of_experts : Cert.Pre_blocks_of_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_blocks_of_experts [hReference2Ideal : Cert.Reference2Ideal.Facts] [hPre_blocks_of_experts : Cert.Pre_blocks_of_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_of_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_of_table : Cert.Pre_rows_of_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_of_table : Cert.Pre_rows_of_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_in_use [hKernel2Ideal : Cert.Kernel2Ideal.Facts] [hReference2Ideal : Cert.Reference2Ideal.Facts] [hPre_blocks_of_experts : Cert.Pre_blocks_of_experts.Facts] [hOn_rows_in_use : Cert.On_rows_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![195584, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 i = 1#1 → r.2.mem ((c.tc : Thread Cert.Kernel2Ideal.nD Cert.Kernel2Ideal.τ).loc Cert.Kernel2Ideal.main_v0_0) i = v0 c i)
          ∧ (∀ i : (⟨2, ![195584, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 i = 1#1 → r.2.mem ((c.tc : Thread Cert.Kernel2Ideal.nD Cert.Kernel2Ideal.τ).loc Cert.Kernel2Ideal.main_v0_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![195584, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 i = 1#1 → r.2.mem ((c.tc : Thread Cert.Reference2Ideal.nD Cert.Reference2Ideal.τ).loc Cert.Reference2Ideal.main_v38) i = v0 c i)
          ∧ (∀ i : (⟨2, ![195584, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 i = 1#1 → r.2.mem ((c.tc : Thread Cert.Reference2Ideal.nD Cert.Reference2Ideal.τ).loc Cert.Reference2Ideal.main_v39) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_rows_of_table : Cert.Pre_rows_of_table.Facts) (hPre_blocks_of_experts : Cert.Pre_blocks_of_experts.Facts) (hOn_rows_in_use : Cert.On_rows_in_use.Facts),
    quiescent_Kernel (hKernel := hKernel) (hPre_rows_of_table := hPre_rows_of_table)
    ∧ quiescent_KernelIdeal (hKernelIdeal := hKernelIdeal) (hPre_rows_of_table := hPre_rows_of_table)
    ∧ quiescent_ReferenceIdeal (hReferenceIdeal := hReferenceIdeal)
    ∧ quiescent_ReferenceIdeal_pre_rows_of_table (hReferenceIdeal := hReferenceIdeal) (hPre_rows_of_table := hPre_rows_of_table)
    ∧ quiescent_Reference (hReference := hReference) (hPre_rows_of_table := hPre_rows_of_table)
    ∧ quiescent_Kernel2 (hKernel2 := hKernel2) (hPre_blocks_of_experts := hPre_blocks_of_experts)
    ∧ quiescent_Kernel2Ideal (hKernel2Ideal := hKernel2Ideal) (hPre_blocks_of_experts := hPre_blocks_of_experts)
    ∧ quiescent_Reference2Ideal (hReference2Ideal := hReference2Ideal)
    ∧ quiescent_Reference2Ideal_pre_blocks_of_experts (hReference2Ideal := hReference2Ideal) (hPre_blocks_of_experts := hPre_blocks_of_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_rows_of_table := hPre_rows_of_table)
    ∧ bitexact_Kernel_Reference (hKernel := hKernel) (hReference := hReference) (hPre_rows_of_table := hPre_rows_of_table)
    ∧ preserves_Kernel2_Kernel2Ideal
    ∧ algebraic_Kernel2Ideal_Reference2Ideal_on_rows_in_use (hKernel2Ideal := hKernel2Ideal) (hReference2Ideal := hReference2Ideal) (hPre_blocks_of_experts := hPre_blocks_of_experts) (hOn_rows_in_use := hOn_rows_in_use)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_rows_in_use.lean ====
abbrev S195584x256 : Shape := ⟨2, ![195584, 256]⟩
abbrev S191 : Shape := ⟨1, ![191]⟩
abbrev S1 : Shape := ⟨1, ![1]⟩
abbrev S64x1024x512 : Shape := ⟨3, ![64, 1024, 512]⟩
abbrev S64x256x1024 : Shape := ⟨3, ![64, 256, 1024]⟩
abbrev S195584x512 : Shape := ⟨2, ![195584, 512]⟩
abbrev S_ : Shape := ⟨0, ![]⟩

class Facts : Prop where
  shapeCasts_S1_S_ : S1.ShapeCasts S_
  bcast_S_S195584x512 : S_.BroadcastsInDim S195584x512 (![] : Fin 0 → Fin S195584x512.rank)

variable [Facts]

def fn {F : FTy → Type} [FloatOps F] (main_arg0 : IVec S195584x256 32) (main_arg1 : IVec S195584x256 32) (main_arg2 : IVec S191 32) (main_arg3 : IVec S1 32) (main_arg4 : FVec F S64x1024x512 .f32) (main_arg5 : FVec F S64x256x1024 .f32) : IVec S195584x512 1 × IVec S195584x512 1 :=
  let main_v0 : IVec S195584x512 32 := iotaInDim S195584x512 32 0
  let main_v1 : IVec S_ 32 := shapeCast S_ main_arg3 shapeCasts_S1_S_
  let main_c : IVec S_ 32 := constantI S_ 32 1024#32
  let main_v2 : IVec S_ 32 := muli main_v1 main_c
  let main_v3 : IVec S195584x512 32 := broadcastInDim S195584x512 ![] bcast_S_S195584x512 main_v2
  let main_v4 : IVec S195584x512 1 := cmpi .slt main_v0 main_v3
  let main_v5 : IVec S_ 32 := shapeCast S_ main_arg3 shapeCasts_S1_S_
  let main_c_0 : IVec S_ 32 := constantI S_ 32 1024#32
  let main_v6 : IVec S_ 32 := muli main_v5 main_c_0
  let main_v7 : IVec S195584x512 32 := broadcastInDim S195584x512 ![] bcast_S_S195584x512 main_v6
  let main_v8 : IVec S195584x512 1 := cmpi .slt main_v0 main_v7
  (main_v4, main_v8)
-- ==== Pre_blocks_of_experts.lean ====
abbrev S195584x256 : Shape := ⟨2, ![195584, 256]⟩
abbrev S191 : Shape := ⟨1, ![191]⟩
abbrev S1 : Shape := ⟨1, ![1]⟩
abbrev S64x1024x512 : Shape := ⟨3, ![64, 1024, 512]⟩
abbrev S64x256x1024 : Shape := ⟨3, ![64, 256, 1024]⟩
abbrev S_ : Shape := ⟨0, ![]⟩

class Facts : Prop where
  bcast_S_S191 : S_.BroadcastsInDim S191 (![] : Fin 0 → Fin S191.rank)
  shapeCasts_S1_S_ : S1.ShapeCasts S_

variable [Facts]

def fn {F : FTy → Type} [FloatOps F] (main_arg0 : IVec S195584x256 32) (main_arg1 : IVec S195584x256 32) (main_arg2 : IVec S191 32) (main_arg3 : IVec S1 32) (main_arg4 : FVec F S64x1024x512 .f32) (main_arg5 : FVec F S64x256x1024 .f32) : IVec S191 1 :=
  let main_c : IVec S_ 32 := constantI S_ 32 0#32
  let main_v0 : IVec S191 32 := broadcastInDim S191 ![] bcast_S_S191 main_c
  let main_v1 : IVec S191 1 := cmpi .sge main_arg2 main_v0
  let main_c_0 : IVec S_ 32 := constantI S_ 32 64#32
  let main_v2 : IVec S191 32 := broadcastInDim S191 ![] bcast_S_S191 main_c_0
  let main_v3 : IVec S191 1 := cmpi .slt main_arg2 main_v2
  let main_v4 : IVec S191 1 := andi main_v1 main_v3
  let main_v5 : IVec S_ 32 := shapeCast S_ main_arg3 shapeCasts_S1_S_
  let main_c_1 : IVec S_ 32 := constantI S_ 32 1#32
  let main_v6 : IVec S_ 1 := cmpi .sge main_v5 main_c_1
  let main_v7 : IVec S191 1 := broadcastInDim S191 ![] bcast_S_S191 main_v6
  let main_v8 : IVec S191 1 := andi main_v4 main_v7
  let main_v9 : IVec S_ 32 := shapeCast S_ main_arg3 shapeCasts_S1_S_
  let main_c_2 : IVec S_ 32 := constantI S_ 32 191#32
  let main_v10 : IVec S_ 1 := cmpi .sle main_v9 main_c_2
  let main_v11 : IVec S191 1 := broadcastInDim S191 ![] bcast_S_S191 main_v10
  let main_v12 : IVec S191 1 := andi main_v8 main_v11
  main_v12
-- ==== Pre_rows_of_table.lean ====
abbrev S195584x256 : Shape := ⟨2, ![195584, 256]⟩
abbrev S131072 : Shape := ⟨1, ![131072]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : IVec S195584x256 32) (main_arg1 : IVec S131072 32) : IVec S131072 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 195584#32
  let main_v2 : IVec S131072 32 := broadcastInDim S131072 ![] bcast_S_S131072 main_c_0
  let main_v3 : IVec S131072 1 := cmpi .slt main_arg1 main_v2
  let main_v4 : IVec S131072 1 := andi main_v1 main_v3
  main_v4
-- ==== Kernel.lean ====
abbrev S195584x256 : Shape := ⟨2, ![195584, 256]⟩
abbrev S131072 : Shape := ⟨1, ![131072]⟩
abbrev S1x131072 : Shape := ⟨2, ![1, 131072]⟩
abbrev S131072x256 : Shape := ⟨2, ![131072, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S195584x128 : Shape := ⟨2, ![195584, 128]⟩

abbrev nBuf : Table → Nat
  | .hbm => 4
  | .local .scVector .vmem => 2
  | _ => 0

abbrev bufTy : (tb : Table) → Fin (nBuf tb) → BufTy
  | .hbm, ⟨0, _⟩ => ⟨S195584x256, .i32⟩
  | .hbm, ⟨1, _⟩ => ⟨S131072, .i32⟩
  | .hbm, ⟨2, _⟩ => ⟨S1x131072, .i32⟩
  | .hbm, ⟨3, _⟩ => ⟨S131072x256, .i32⟩
  | .local .scVector .vmem, ⟨0, _⟩ => ⟨S2x1x128, .i32⟩
  | .local .scVector .vmem, ⟨1, _⟩ => ⟨S2x128x256, .i32⟩
  | _, _ => ⟨S195584x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S131072x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S131072x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S131072x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S131072x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S131072x256.size a)
theorem k0_off19_inb : ∀ (i : grid0.Coords) (v33_4_r0 : BitVec 32) (k0_hw5 : k0_chk5 i v33_4_r0), ∀ a, (k0_off19 i v33_4_r0) a + S128x256.size a ≤ S131072x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S195584x256 : Shape := ⟨2, ![195584, 256]⟩
abbrev S131072 : Shape := ⟨1, ![131072]⟩
abbrev S_ : Shape := ⟨0, ![]⟩
abbrev S131072x1 : Shape := ⟨2, ![131072, 1]⟩
abbrev S131072x256 : Shape := ⟨2, ![131072, 256]⟩

abbrev nBuf : Space → Nat
  | .hbm => 11
  | .vmem => 0
  | .smem => 0
  | _ => 0

abbrev bufTy : (tb : Table) → Fin (tcTables nBuf tb) → BufTy
  | .hbm, ⟨0, _⟩ => ⟨S195584x256, .i32⟩
  | .hbm, ⟨1, _⟩ => ⟨S131072, .i32⟩
  | .hbm, ⟨2, _⟩ => ⟨S_, .i32⟩
  | .hbm, ⟨3, _⟩ => ⟨S131072, .i32⟩
  | .hbm, ⟨4, _⟩ => ⟨S131072, .i1⟩
  | .hbm, ⟨5, _⟩ => ⟨S_, .i32⟩
  | .hbm, ⟨6, _⟩ => ⟨S131072, .i32⟩
  | .hbm, ⟨7, _⟩ => ⟨S131072, .i32⟩
  | .hbm, ⟨8, _⟩ => ⟨S131072, .i32⟩
  | .hbm, ⟨9, _⟩ => ⟨S131072x1, .i32⟩
  | .hbm, ⟨10, _⟩ => ⟨S131072x256, .i32⟩
  | _, _ => ⟨S195584x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S195584x256 : Shape := ⟨2, ![195584, 256]⟩
abbrev S191 : Shape := ⟨1, ![191]⟩
abbrev S1 : Shape := ⟨1, ![1]⟩
abbrev S64x1024x512 : Shape := ⟨3, ![64, 1024, 512]⟩
abbrev S64x256x1024 : Shape := ⟨3, ![64, 256, 1024]⟩
abbrev S195584x512 : Shape := ⟨2, ![195584, 512]⟩
abbrev S1024x256 : Shape := ⟨2, ![1024, 256]⟩
abbrev S1x1024x512 : Shape := ⟨3, ![1, 1024, 512]⟩
abbrev S1x256x1024 : Shape := ⟨3, ![1, 256, 1024]⟩
abbrev S1024x512 : Shape := ⟨2, ![1024, 512]⟩
abbrev S256x1024 : Shape := ⟨2, ![256, 1024]⟩
abbrev S1024x1024 : Shape := ⟨2, ![1024, 1024]⟩

abbrev nBuf : Space → Nat
  | .hbm => 6
  | .vmem => 14
  | .smem => 2
  | _ => 0

abbrev bufTy : (tb : Table) → Fin (tcTables nBuf tb) → BufTy
  | .hbm, ⟨0, _⟩ => ⟨S195584x256, .i32⟩
  | .hbm, ⟨1, _⟩ => ⟨S195584x256, .i32⟩
  | .hbm, ⟨2, _⟩ => ⟨S64x1024x512, .f32⟩
  | .hbm, ⟨3, _⟩ => ⟨S64x256x1024, .f32⟩
  | .hbm, ⟨4, _⟩ => ⟨S195584x512, .bf16⟩
  | .hbm, ⟨5, _⟩ => ⟨S195584x512, .bf16⟩
  | .local _ .vmem, ⟨0, _⟩ => ⟨S1024x256, .i32⟩
  | .local _ .vmem, ⟨1, _⟩ => ⟨S1024x256, .i32⟩
  | .local _ .vmem, ⟨2, _⟩ => ⟨S1024x256, .i32⟩
  | .local _ .vmem, ⟨3, _⟩ => ⟨S1024x256, .i32⟩
  | .local _ .vmem, ⟨4, _⟩ => ⟨S1x1024x512, .f32⟩
  | .local _ .vmem, ⟨5, _⟩ => ⟨S1x1024x512, .f32⟩
  | .local _ .vmem, ⟨6, _⟩ => ⟨S1x256x1024, .f32⟩
  | .local _ .vmem, ⟨7, _⟩ => ⟨S1x256x1024, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S256x1024, .bf16⟩
  | .local _ .smem, ⟨0, _⟩ => ⟨S191, .i32⟩
  | .local _ .smem, ⟨1, _⟩ => ⟨S1, .i32⟩
  | _, _ => ⟨S195584x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![191], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S191.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S191.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S195584x256 : Shape := ⟨2, ![195584, 256]⟩
abbrev S191 : Shape := ⟨1, ![191]⟩
abbrev S1 : Shape := ⟨1, ![1]⟩
abbrev S64x1024x512 : Shape := ⟨3, ![64, 1024, 512]⟩
abbrev S64x256x1024 : Shape := ⟨3, ![64, 256, 1024]⟩
abbrev S_ : Shape := ⟨0, ![]⟩
abbrev S195584x512 : Shape := ⟨2, ![195584, 512]⟩
abbrev S195584x1024 : Shape := ⟨2, ![195584, 1024]⟩
abbrev S191x1024x1024 : Shape := ⟨3, ![191, 1024, 1024]⟩
abbrev S191x1 : Shape := ⟨2, ![191, 1]⟩
abbrev S191x1024x512 : Shape := ⟨3, ![191, 1024, 512]⟩
abbrev S191x256x1024 : Shape := ⟨3, ![191, 256, 1024]⟩
abbrev S191x1024x256 : Shape := ⟨3, ![191, 1024, 256]⟩

abbrev nBuf : Space → Nat
  | .hbm => 62
  | .vmem => 0
  | .smem => 0
  | _ => 0

abbrev bufTy : (tb : Table) → Fin (tcTables nBuf tb) → BufTy
  | .hbm, ⟨0, _⟩ => ⟨S195584x256, .i32⟩
  | .hbm, ⟨1, _⟩ => ⟨S195584x256, .i32⟩
  | .hbm, ⟨2, _⟩ => ⟨S191, .i32⟩
  | .hbm, ⟨3, _⟩ => ⟨S1, .i32⟩
  | .hbm, ⟨4, _⟩ => ⟨S64x1024x512, .f32⟩
  | .hbm, ⟨5, _⟩ => ⟨S64x256x1024, .f32⟩
  | .hbm, ⟨6, _⟩ => ⟨S_, .i32⟩
  | .hbm, ⟨7, _⟩ => ⟨S195584x256, .i32⟩
  | .hbm, ⟨8, _⟩ => ⟨S195584x256, .i32⟩
  | .hbm, ⟨9, _⟩ => ⟨S195584x256, .f32⟩
  | .hbm, ⟨10, _⟩ => ⟨S_, .i32⟩
  | .hbm, ⟨11, _⟩ => ⟨S195584x256, .i32⟩
  | .hbm, ⟨12, _⟩ => ⟨S195584x256, .i32⟩
  | .hbm, ⟨13, _⟩ => ⟨S195584x256, .f32⟩
  | .hbm, ⟨14, _⟩ => ⟨S195584x512, .f32⟩
  | .hbm, ⟨15, _⟩ => ⟨S_, .i32⟩
  | .hbm, ⟨16, _⟩ => ⟨S195584x256, .i32⟩
  | .hbm, ⟨17, _⟩ => ⟨S195584x256, .i32⟩
  | .hbm, ⟨18, _⟩ => ⟨S195584x256, .f32⟩
  | .hbm, ⟨19, _⟩ => ⟨S_, .i32⟩
  | .hbm, ⟨20, _⟩ => ⟨S195584x256, .i32⟩
  | .hbm, ⟨21, _⟩ => ⟨S195584x256, .i32⟩
  | .hbm, ⟨22, _⟩ => ⟨S195584x256, .f32⟩
  | .hbm, ⟨23, _⟩ => ⟨S195584x512, .f32⟩
  | .hbm, ⟨24, _⟩ => ⟨S195584x1024, .f32⟩
  | .hbm, ⟨25, _⟩ => ⟨S191x1024x1024, .f32⟩
  | .hbm, ⟨26, _⟩ => ⟨S_, .i32⟩
  | .hbm, ⟨27, _⟩ => ⟨S191, .i32⟩
  | .hbm, ⟨28, _⟩ => ⟨S191, .i1⟩
  | .hbm, ⟨29, _⟩ => ⟨S_, .i32⟩
  | .hbm, ⟨30, _⟩ => ⟨S191, .i32⟩
  | .hbm, ⟨31, _⟩ => ⟨S191, .i32⟩
  | .hbm, ⟨32, _⟩ => ⟨S191, .i32⟩
  | .hbm, ⟨33, _⟩ => ⟨S191x1, .i32⟩
  | .hbm, ⟨34, _⟩ => ⟨S191x1024x512, .f32⟩
  | .hbm, ⟨35, _⟩ => ⟨S_, .i32⟩
  | .hbm, ⟨36, _⟩ => ⟨S191, .i32⟩
  | .hbm, ⟨37, _⟩ => ⟨S191, .i1⟩
  | .hbm, ⟨38, _⟩ => ⟨S_, .i32⟩
  | .hbm, ⟨39, _⟩ => ⟨S191, .i32⟩
  | .hbm, ⟨40, _⟩ => ⟨S191, .i32⟩
  | .hbm, ⟨41, _⟩ => ⟨S191, .i32⟩
  | .hbm, ⟨42, _⟩ => ⟨S191x1, .i32⟩
  | .hbm, ⟨43, _⟩ => ⟨S191x256x1024, .f32⟩
  | .hbm, ⟨44, _⟩ => ⟨S191x1024x512, .f32⟩
  | .hbm, ⟨45, _⟩ => ⟨S191x1024x256, .f32⟩
  | .hbm, ⟨46, _⟩ => ⟨S191x1024x256, .f32⟩
  | .hbm, ⟨47, _⟩ => ⟨S191x1024x256, .f32⟩
  | .hbm, ⟨48, _⟩ => ⟨S191x1024x256, .f32⟩
  | .hbm, ⟨49, _⟩ => ⟨S_, .f32⟩
  | .hbm, ⟨50, _⟩ => ⟨S191x1024x256, .f32⟩
  | .hbm, ⟨51, _⟩ => ⟨S191x1024x256, .f32⟩
  | .hbm, ⟨52, _⟩ => ⟨S_, .f32⟩
  | .hbm, ⟨53, _⟩ => ⟨S191x1024x256, .f32⟩
  | .hbm, ⟨54, _⟩ => ⟨S191x1024x256, .f32⟩
  | .hbm, ⟨55, _⟩ => ⟨S191x1024x256, .f32⟩
  | .hbm, ⟨56, _⟩ => ⟨S191x1024x256, .f32⟩
  | .hbm, ⟨57, _⟩ => ⟨S191x1024x1024, .f32⟩
  | .hbm, ⟨58, _⟩ => ⟨S195584x1024, .f32⟩
  | .hbm, ⟨59, _⟩ => ⟨S195584x1024, .bf16⟩
  | .hbm, ⟨60, _⟩ => ⟨S195584x512, .bf16⟩
  | .hbm, ⟨61, _⟩ => ⟨S195584x512, .bf16⟩
  | _, _ => ⟨S195584x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel3.lean ====
abbrev S131072x256 : Shape := ⟨2, ![131072, 256]⟩
abbrev S16384x128 : Shape := ⟨2, ![16384, 128]⟩
abbrev S16384x1024 : Shape := ⟨2, ![16384, 1024]⟩
abbrev S40x6144 : Shape := ⟨2, ![40, 6144]⟩
abbrev S1024x512 : Shape := ⟨2, ![1024, 512]⟩
abbrev S256x1024 : Shape := ⟨2, ![256, 1024]⟩
abbrev S8x16384x256 : Shape := ⟨3, ![8, 16384, 256]⟩
abbrev S40x1x6144 : Shape := ⟨3, ![40, 1, 6144]⟩
abbrev S8x512x256 : Shape := ⟨3, ![8, 512, 256]⟩
abbrev S512x128 : Shape := ⟨2, ![512, 128]⟩
abbrev S512x1024 : Shape := ⟨2, ![512, 1024]⟩
abbrev S1x1x1024 : Shape := ⟨3, ![1, 1, 1024]⟩
abbrev S512x512 : Shape := ⟨2, ![512, 512]⟩
abbrev S512x256 : Shape := ⟨2, ![512, 256]⟩
abbrev S1x512x256 : Shape := ⟨3, ![1, 512, 256]⟩
abbrev S512x1 : Shape := ⟨2, ![512, 1]⟩
abbrev S1x1024 : Shape := ⟨2, ![1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S131072x256, .i32⟩
  | .hbm, ⟨1, _⟩ => ⟨S131072x256, .i32⟩
  | .hbm, ⟨2, _⟩ => ⟨S16384x128, .f32⟩
  | .hbm, ⟨3, _⟩ => ⟨S16384x1024, .bf16⟩
  | .hbm, ⟨4, _⟩ => ⟨S16384x1024, .f32⟩
  | .hbm, ⟨5, _⟩ => ⟨S40x6144, .f32⟩
  | .hbm, ⟨6, _⟩ => ⟨S1024x512, .f32⟩
  | .hbm, ⟨7, _⟩ => ⟨S256x1024, .f32⟩
  | .hbm, ⟨8, _⟩ => ⟨S8x16384x256, .i32⟩
  | .hbm, ⟨9, _⟩ => ⟨S8x16384x256, .i32⟩
  | .hbm, ⟨10, _⟩ => ⟨S40x1x6144, .f32⟩
  | .hbm, ⟨11, _⟩ => ⟨S1024x512, .bf16⟩
  | .hbm, ⟨12, _⟩ => ⟨S256x1024, .bf16⟩
  | .hbm, ⟨13, _⟩ => ⟨S16384x1024, .f32⟩
  | .local _ .vmem, ⟨0, _⟩ => ⟨S8x512x256, .i32⟩
  | .local _ .vmem, ⟨1, _⟩ => ⟨S8x512x256, .i32⟩
  | .local _ .vmem, ⟨2, _⟩ => ⟨S8x512x256, .i32⟩
  | .local _ .vmem, ⟨3, _⟩ => ⟨S8x512x256, .i32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x512, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | _, _ => ⟨S131072x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  ![v17.toNat, c0_i32_5.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S131072x256 : Shape := ⟨2, ![131072, 256]⟩
abbrev S16384x128 : Shape := ⟨2, ![16384, 128]⟩
abbrev S16384x1024 : Shape := ⟨2, ![16384, 1024]⟩
abbrev S40x6144 : Shape := ⟨2, ![40, 6144]⟩
abbrev S1024x512 : Shape := ⟨2, ![1024, 512]⟩
abbrev S256x1024 : Shape := ⟨2, ![256, 1024]⟩
abbrev S_ : Shape := ⟨0, ![]⟩
abbrev S131072x512 : Shape := ⟨2, ![131072, 512]⟩
abbrev S131072x1024 : Shape := ⟨2, ![131072, 1024]⟩
abbrev S8x16384x1024 : Shape := ⟨3, ![8, 16384, 1024]⟩
abbrev S16384x8 : Shape := ⟨2, ![16384, 8]⟩
abbrev S16384x512 : Shape := ⟨2, ![16384, 512]⟩
abbrev S16384x256 : Shape := ⟨2, ![16384, 256]⟩
abbrev S2x6144 : Shape := ⟨2, ![2, 6144]⟩
abbrev S2x1024 : Shape := ⟨2, ![2, 1024]⟩
abbrev S2x8192x1024 : Shape := ⟨3, ![2, 8192, 1024]⟩
abbrev S2x1x1024 : Shape := ⟨3, ![2, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S131072x256, .i32⟩
  | .hbm, ⟨1, _⟩ => ⟨S131072x256, .i32⟩
  | .hbm, ⟨2, _⟩ => ⟨S16384x128, .f32⟩
  | .hbm, ⟨3, _⟩ => ⟨S16384x1024, .bf16⟩
  | .hbm, ⟨4, _⟩ => ⟨S16384x1024, .f32⟩
  | .hbm, ⟨5, _⟩ => ⟨S40x6144, .f32⟩
  | .hbm, ⟨6, _⟩ => ⟨S1024x512, .f32⟩
  | .hbm, ⟨7, _⟩ => ⟨S256x1024, .f32⟩
  | .hbm, ⟨8, _⟩ => ⟨S_, .i32⟩
  | .hbm, ⟨9, _⟩ => ⟨S131072x256, .i32⟩
  | .hbm, ⟨10, _⟩ => ⟨S131072x256, .i32⟩
  | .hbm, ⟨11, _⟩ => ⟨S131072x256, .f32⟩
  | .hbm, ⟨12, _⟩ => ⟨S_, .i32⟩
  | .hbm, ⟨13, _⟩ => ⟨S131072x256, .i32⟩
  | .hbm, ⟨14, _⟩ => ⟨S131072x256, .i32⟩
  | .hbm, ⟨15, _⟩ => ⟨S131072x256, .f32⟩
  | .hbm, ⟨16, _⟩ => ⟨S131072x512, .f32⟩
  | .hbm, ⟨17, _⟩ => ⟨S_, .i32⟩
  | .hbm, ⟨18, _⟩ => ⟨S131072x256, .i32⟩
  | .hbm, ⟨19, _⟩ => ⟨S131072x256, .i32⟩
  | .hbm, ⟨20, _⟩ => ⟨S131072x256, .f32⟩
  | .hbm, ⟨21, _⟩ => ⟨S_, .i32⟩
  | .hbm, ⟨22, _⟩ => ⟨S131072x256, .i32⟩
  | .hbm, ⟨23, _⟩ => ⟨S131072x256, .i32⟩
  | .hbm, ⟨24, _⟩ => ⟨S131072x256, .f32⟩
  | .hbm, ⟨25, _⟩ => ⟨S131072x512, .f32⟩
  | .hbm, ⟨26, _⟩ => ⟨S131072x1024, .f32⟩
  | .hbm, ⟨27, _⟩ => ⟨S8x16384x1024, .f32⟩
  | .hbm, ⟨28, _⟩ => ⟨S16384x8, .f32⟩
  | .hbm, ⟨29, _⟩ => ⟨S16384x1024, .f32⟩
  | .hbm, ⟨30, _⟩ => ⟨S16384x1024, .f32⟩
  | .hbm, ⟨31, _⟩ => ⟨S16384x512, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x1024, .f32⟩
  | .hbm, ⟨45, _⟩ => ⟨S2x6144, .f32⟩
  | .hbm, ⟨46, _⟩ => ⟨S2x1024, .f32⟩
  | .hbm, ⟨47, _⟩ => ⟨S2x1024, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S2x8192x1024, .f32⟩
  | .hbm, ⟨53, _⟩ => ⟨S2x1x1024, .f32⟩
  | .hbm, ⟨54, _⟩ => ⟨S16384x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S16384x1024, .f32⟩
  | _, _ => ⟨S131072x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel4.lean ====
abbrev S32x576x4096 : Shape := ⟨3, ![32, 576, 4096]⟩
abbrev S2x32x64 : Shape := ⟨3, ![2, 32, 64]⟩
abbrev S2x2048x256 : Shape := ⟨3, ![2, 2048, 256]⟩
abbrev S2x256x64 : Shape := ⟨3, ![2, 256, 64]⟩
abbrev S2x1024x256 : Shape := ⟨3, ![2, 1024, 256]⟩
abbrev S2x1024x512 : Shape := ⟨3, ![2, 1024, 512]⟩
abbrev S2x2x1024 : Shape := ⟨3, ![2, 2, 1024]⟩
abbrev S2x2 : Shape := ⟨2, ![2, 2]⟩
abbrev S_ : Shape := ⟨0, ![]⟩
abbrev S2x1x256x1x64 : Shape := ⟨5, ![2, 1, 256, 1, 64]⟩
abbrev S2x1x2x1 : Shape := ⟨4, ![2, 1, 2, 1]⟩
abbrev S1x2x1x2x1 : Shape := ⟨5, ![1, 2, 1, 2, 1]⟩
abbrev S2x2x256x2x64 : Shape := ⟨5, ![2, 2, 256, 2, 64]⟩
abbrev S2x2x256x128 : Shape := ⟨4, ![2, 2, 256, 128]⟩
abbrev S32x2x576x128 : Shape := ⟨4, ![32, 2, 576, 128]⟩
abbrev S1x576x4096 : Shape := ⟨3, ![1, 576, 4096]⟩
abbrev S1x1024x512 : Shape := ⟨3, ![1, 1024, 512]⟩
abbrev S1x2x1024 : Shape := ⟨3, ![1, 2, 1024]⟩
abbrev S1x2x256x128 : Shape := ⟨4, ![1, 2, 256, 128]⟩
abbrev S1x1x576x128 : Shape := ⟨4, ![1, 1, 576, 128]⟩
abbrev S2x1024 : Shape := ⟨2, ![2, 1024]⟩
abbrev S576x128 : Shape := ⟨2, ![576, 128]⟩
abbrev S1x576x1024 : Shape := ⟨3, ![1, 576, 1024]⟩
abbrev S576x1024 : Shape := ⟨2, ![576, 1024]⟩
abbrev S1x1024 : Shape := ⟨2, ![1, 1024]⟩
abbrev S1x1024x256 : Shape := ⟨3, ![1, 1024, 256]⟩
abbrev S1024x256 : Shape := ⟨2, ![1024, 256]⟩
abbrev S576x256 : Shape := ⟨2, ![576, 256]⟩
abbrev S1x1x256x128 : Shape := ⟨4, ![1, 1, 256, 128]⟩
abbrev S256x128 : Shape := ⟨2, ![256, 128]⟩

abbrev nBuf : Space → Nat
  | .hbm => 25
  | .vmem => 10
  | .smem => 0
  | _ => 0

abbrev bufTy : (tb : Table) → Fin (tcTables nBuf tb) → BufTy
  | .hbm, ⟨0, _⟩ => ⟨S32x576x4096, .bf16⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S2x1024x256, .f32⟩
  | .hbm, ⟨5, _⟩ => ⟨S2x1024x256, .f32⟩
  | .hbm, ⟨6, _⟩ => ⟨S2x1024x512, .f32⟩
  | .hbm, ⟨7, _⟩ => ⟨S2x1024x512, .bf16⟩
  | .hbm, ⟨8, _⟩ => ⟨S2x2x1024, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S2x1x256x1x64, .f32⟩
  | .hbm, ⟨17, _⟩ => ⟨S2x1x2x1, .f32⟩
  | .hbm, ⟨18, _⟩ => ⟨S1x2x1x2x1, .f32⟩
  | .hbm, ⟨19, _⟩ => ⟨S2x2x256x2x64, .f32⟩
  | .hbm, ⟨20, _⟩ => ⟨S2x2x256x2x64, .f32⟩
  | .hbm, ⟨21, _⟩ => ⟨S2x2x256x2x64, .f32⟩
  | .hbm, ⟨22, _⟩ => ⟨S2x2x256x128, .f32⟩
  | .hbm, ⟨23, _⟩ => ⟨S2x2x256x128, .bf16⟩
  | .hbm, ⟨24, _⟩ => ⟨S32x2x576x128, .bf16⟩
  | .local _ .vmem, ⟨0, _⟩ => ⟨S1x576x4096, .bf16⟩
  | .local _ .vmem, ⟨1, _⟩ => ⟨S1x576x4096, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2x1024, .f32⟩
  | .local _ .vmem, ⟨5, _⟩ => ⟨S1x2x1024, .f32⟩
  | .local _ .vmem, ⟨6, _⟩ => ⟨S1x2x256x128, .bf16⟩
  | .local _ .vmem, ⟨7, _⟩ => ⟨S1x2x256x128, .bf16⟩
  | .local _ .vmem, ⟨8, _⟩ => ⟨S1x1x576x128, .bf16⟩
  | .local _ .vmem, ⟨9, _⟩ => ⟨S1x1x576x128, .bf16⟩
  | _, _ => ⟨S32x576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x576x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x576x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32x576x4096 : Shape := ⟨3, ![32, 576, 4096]⟩
abbrev S2x32x64 : Shape := ⟨3, ![2, 32, 64]⟩
abbrev S2x2048x256 : Shape := ⟨3, ![2, 2048, 256]⟩
abbrev S2x256x64 : Shape := ⟨3, ![2, 256, 64]⟩
abbrev S32x576x2048 : Shape := ⟨3, ![32, 576, 2048]⟩
abbrev S32x576x2x16x64 : Shape := ⟨5, ![32, 576, 2, 16, 64]⟩
abbrev S32x576x16x2x64 : Shape := ⟨5, ![32, 576, 16, 2, 64]⟩
abbrev S32x9216x2x64 : Shape := ⟨4, ![32, 9216, 2, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S32x575x16x2x64 : Shape := ⟨5, ![32, 575, 16, 2, 64]⟩
abbrev S32x575x32x2x64 : Shape := ⟨5, ![32, 575, 32, 2, 64]⟩
abbrev S32x1x64 : Shape := ⟨3, ![32, 1, 64]⟩
abbrev S1x1x32x1x64 : Shape := ⟨5, ![1, 1, 32, 1, 64]⟩
abbrev S32x575x2x32x64 : Shape := ⟨5, ![32, 575, 2, 32, 64]⟩
abbrev S32x575x2x2048 : Shape := ⟨4, ![32, 575, 2, 2048]⟩
abbrev S32x575x2x256 : Shape := ⟨4, ![32, 575, 2, 256]⟩
abbrev S_ : Shape := ⟨0, ![]⟩
abbrev S32x575x2x64 : Shape := ⟨4, ![32, 575, 2, 64]⟩
abbrev S32x1x575x2x64 : Shape := ⟨5, ![32, 1, 575, 2, 64]⟩
abbrev S32x2x575x2x64 : Shape := ⟨5, ![32, 2, 575, 2, 64]⟩
abbrev S32x2x575x128 : Shape := ⟨4, ![32, 2, 575, 128]⟩
abbrev S32x2x1x128 : Shape := ⟨4, ![32, 2, 1, 128]⟩
abbrev S32x2x576x128 : Shape := ⟨4, ![32, 2, 576, 128]⟩

abbrev nBuf : Space → Nat
  | .hbm => 76
  | .vmem => 0
  | .smem => 0
  | _ => 0

abbrev bufTy : (tb : Table) → Fin (tcTables nBuf tb) → BufTy
  | .hbm, ⟨0, _⟩ => ⟨S32x576x4096, .bf16⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S32x576x2048, .bf16⟩
  | .hbm, ⟨5, _⟩ => ⟨S32x576x2048, .f32⟩
  | .hbm, ⟨6, _⟩ => ⟨S32x576x2x16x64, .f32⟩
  | .hbm, ⟨7, _⟩ => ⟨S32x576x16x2x64, .f32⟩
  | .hbm, ⟨8, _⟩ => ⟨S32x9216x2x64, .f32⟩
  | .hbm, ⟨9, _⟩ => ⟨S32x576x2048, .bf16⟩
  | .hbm, ⟨10, _⟩ => ⟨S32x576x2048, .f32⟩
  | .hbm, ⟨11, _⟩ => ⟨S32x576x2x16x64, .f32⟩
  | .hbm, ⟨12, _⟩ => ⟨S32x576x16x2x64, .f32⟩
  | .hbm, ⟨13, _⟩ => ⟨S32x9216x2x64, .f32⟩
  | .hbm, ⟨14, _⟩ => ⟨S1x32x64, .f32⟩
  | .hbm, ⟨15, _⟩ => ⟨S32x64, .f32⟩
  | .hbm, ⟨16, _⟩ => ⟨S1x2048x256, .f32⟩
  | .hbm, ⟨17, _⟩ => ⟨S2048x256, .f32⟩
  | .hbm, ⟨18, _⟩ => ⟨S1x256x64, .f32⟩
  | .hbm, ⟨19, _⟩ => ⟨S256x64, .f32⟩
  | .hbm, ⟨20, _⟩ => ⟨S32x576x16x2x64, .f32⟩
  | .hbm, ⟨21, _⟩ => ⟨S32x575x16x2x64, .f32⟩
  | .hbm, ⟨22, _⟩ => ⟨S32x575x16x2x64, .f32⟩
  | .hbm, ⟨23, _⟩ => ⟨S32x575x32x2x64, .f32⟩
  | .hbm, ⟨24, _⟩ => ⟨S32x1x64, .f32⟩
  | .hbm, ⟨25, _⟩ => ⟨S1x1x32x1x64, .f32⟩
  | .hbm, ⟨26, _⟩ => ⟨S32x575x32x2x64, .f32⟩
  | .hbm, ⟨27, _⟩ => ⟨S32x575x32x2x64, .f32⟩
  | .hbm, ⟨28, _⟩ => ⟨S32x575x2x32x64, .f32⟩
  | .hbm, ⟨29, _⟩ => ⟨S32x575x2x2048, .f32⟩
  | .hbm, ⟨30, _⟩ => ⟨S32x575x2x256, .f32⟩
  | .hbm, ⟨31, _⟩ => ⟨S32x575x2x256, .f32⟩
  | .hbm, ⟨32, _⟩ => ⟨S32x575x2x256, .f32⟩
  | .hbm, ⟨33, _⟩ => ⟨S_, .f32⟩
  | .hbm, ⟨34, _⟩ => ⟨S32x575x2x256, .f32⟩
  | .hbm, ⟨35, _⟩ => ⟨S32x575x2x256, .f32⟩
  | .hbm, ⟨36, _⟩ => ⟨S_, .f32⟩
  | .hbm, ⟨37, _⟩ => ⟨S32x575x2x256, .f32⟩
  | .hbm, ⟨38, _⟩ => ⟨S32x575x2x256, .f32⟩
  | .hbm, ⟨39, _⟩ => ⟨S32x575x2x256, .f32⟩
  | .hbm, ⟨40, _⟩ => ⟨S32x575x2x64, .f32⟩
  | .hbm, ⟨41, _⟩ => ⟨S1x32x64, .f32⟩
  | .hbm, ⟨42, _⟩ => ⟨S32x64, .f32⟩
  | .hbm, ⟨43, _⟩ => ⟨S1x2048x256, .f32⟩
  | .hbm, ⟨44, _⟩ => ⟨S2048x256, .f32⟩
  | .hbm, ⟨45, _⟩ => ⟨S1x256x64, .f32⟩
  | .hbm, ⟨46, _⟩ => ⟨S256x64, .f32⟩
  | .hbm, ⟨47, _⟩ => ⟨S32x576x16x2x64, .f32⟩
  | .hbm, ⟨48, _⟩ => ⟨S32x575x16x2x64, .f32⟩
  | .hbm, ⟨49, _⟩ => ⟨S32x575x16x2x64, .f32⟩
  | .hbm, ⟨50, _⟩ => ⟨S32x575x32x2x64, .f32⟩
  | .hbm, ⟨51, _⟩ => ⟨S32x1x64, .f32⟩
  | .hbm, ⟨52, _⟩ => ⟨S1x1x32x1x64, .f32⟩
  | .hbm, ⟨53, _⟩ => ⟨S32x575x32x2x64, .f32⟩
  | .hbm, ⟨54, _⟩ => ⟨S32x575x32x2x64, .f32⟩
  | .hbm, ⟨55, _⟩ => ⟨S32x575x2x32x64, .f32⟩
  | .hbm, ⟨56, _⟩ => ⟨S32x575x2x2048, .f32⟩
  | .hbm, ⟨57, _⟩ => ⟨S32x575x2x256, .f32⟩
  | .hbm, ⟨58, _⟩ => ⟨S32x575x2x256, .f32⟩
  | .hbm, ⟨59, _⟩ => ⟨S32x575x2x256, .f32⟩
  | .hbm, ⟨60, _⟩ => ⟨S_, .f32⟩
  | .hbm, ⟨61, _⟩ => ⟨S32x575x2x256, .f32⟩
  | .hbm, ⟨62, _⟩ => ⟨S32x575x2x256, .f32⟩
  | .hbm, ⟨63, _⟩ => ⟨S_, .f32⟩
  | .hbm, ⟨64, _⟩ => ⟨S32x575x2x256, .f32⟩
  | .hbm, ⟨65, _⟩ => ⟨S32x575x2x256, .f32⟩
  | .hbm, ⟨66, _⟩ => ⟨S32x575x2x256, .f32⟩
  | .hbm, ⟨67, _⟩ => ⟨S32x575x2x64, .f32⟩
  | .hbm, ⟨68, _⟩ => ⟨S32x1x575x2x64, .f32⟩
  | .hbm, ⟨69, _⟩ => ⟨S32x1x575x2x64, .f32⟩
  | .hbm, ⟨70, _⟩ => ⟨S32x2x575x2x64, .f32⟩
  | .hbm, ⟨71, _⟩ => ⟨S32x2x575x128, .f32⟩
  | .hbm, ⟨72, _⟩ => ⟨S32x2x575x128, .bf16⟩
  | .hbm, ⟨73, _⟩ => ⟨S_, .bf16⟩
  | .hbm, ⟨74, _⟩ => ⟨S32x2x1x128, .bf16⟩
  | .hbm, ⟨75, _⟩ => ⟨S32x2x576x128, .bf16⟩
  | _, _ => ⟨S32x576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Words.lean ====
/-
  The words of one tile's pipeline, in closed form: with `c` the SparseCore, `s` the subcore and `t` the trip, the
  four counters carried by the loop are `t + 1` (index copies started), `t` (index copies waited for and output
  copies started) and `t - 1` (output copies waited for), and the step is `t`, wrapping to 0 after the last trip.
  From these the slots (a counter's parity), the offsets into the index list and the output (128 rows a step, 32
  steps a tile), the conditions and the checks.
-/
module

public import proofs.«01_k».proof.Defs
public import proofs.«01_k».proof.Proof.Gen.KernelIdeal

@[expose] public section

noncomputable section

namespace Cert.Proof

open Cert.KernelIdeal Cert.KernelIdeal.Gen
open Idealize.ShloMosaic

/-- The grid point of core `c`, subcore `s`. -/
def crd (c : Fin 2) (s : Fin 16) : grid0.Coords :=
  fun | 0 => c | 1 => s | ⟨_ + 2, h⟩ => absurd h (Nat.not_lt.2 (Nat.le_add_left _ _))

theorem crd_eta (i : grid0.Coords) : crd (i 0) (i 1) = i := by
  funext a
  match a with
  | 0 => rfl
  | 1 => rfl

theorem trips_eq : k0_t1_loop.trips = 32 := by decide

abbrev tr (t : Fin 32) : Fin k0_t1_loop.trips := t.cast trips_eq.symm

theorem tr_eta (t : Fin k0_t1_loop.trips) : tr (t.cast trips_eq) = t := rfl

/-- The carried counters before trip `t`. -/
abbrev w6 (t : ℕ) : BitVec 32 := BitVec.ofNat 32 (min (t + 1) 32)
abbrev w7 (t : ℕ) : BitVec 32 := BitVec.ofNat 32 t
abbrev w9 (t : ℕ) : BitVec 32 := BitVec.ofNat 32 (t - 1)
abbrev w10 (t : ℕ) : BitVec 32 := BitVec.ofNat 32 (t % 32)

/-- The first step of the tile, among all 1024. -/
abbrev base (c : Fin 2) (s : Fin 16) : ℕ := 512 * c.val + 32 * s.val

theorem cond1_c : ∀ (c : Fin 2) (s : Fin 16) (t : Fin 32), (k0_cond1 (crd c s) (tr t) (w10 t.val) = 1#1) = (t.val < 31) := by
  have h : ∀ (c : Fin 2) (s : Fin 16) (t : Fin 32), k0_cond1 (crd c s) (tr t) (w10 t.val) = if t.val < 31 then 1#1 else 0#1 := by
    decide +kernel
  intro c s t; rw [h]; split <;> simp_all
theorem cond2_c : ∀ (c : Fin 2) (s : Fin 16) (t : Fin 32), k0_cond2 (crd c s) (tr t) (w10 t.val) = 1#1 := by decide +kernel
theorem cond5_c : ∀ (c : Fin 2) (s : Fin 16) (t : Fin 32), k0_cond5 (crd c s) (tr t) (w10 t.val) = 1#1 := by decide +kernel
theorem cond7_c : ∀ (c : Fin 2) (s : Fin 16) (t : Fin 32), (k0_cond7 (crd c s) (tr t) (w10 t.val) = 1#1) = (0 < t.val) := by
  have h : ∀ (c : Fin 2) (s : Fin 16) (t : Fin 32), k0_cond7 (crd c s) (tr t) (w10 t.val) = if 0 < t.val then 1#1 else 0#1 := by
    decide +kernel
  intro c s t; rw [h]; split <;> simp_all

theorem off2_c : ∀ (c : Fin 2) (s : Fin 16), k0_off2 (crd c s) = ![0, 128 * base c s] := by decide +kernel
theorem off4_c : ∀ (t : Fin 31), k0_off4 (w6 t.val) = ![(t.val + 1) % 2, 0, 0] := by decide +kernel
theorem off5_c : ∀ (c : Fin 2) (s : Fin 16) (t : Fin 31), k0_off5 (crd c s) (w10 t.val) = ![0, 128 * (base c s + (t.val + 1))] := by decide +kernel
theorem off6_c : ∀ (t : Fin 31), k0_off6 (w6 t.val) = ![(t.val + 1) % 2] := by decide +kernel
theorem off7_c : ∀ (t : Fin 32), k0_off7 (w7 t.val) = ![t.val % 2, 0, 0] := by decide +kernel
theorem off8_c : ∀ (c : Fin 2) (s : Fin 16) (t : Fin 32), k0_off8 (crd c s) (w10 t.val) = ![0, 128 * (base c s + t.val)] := by decide +kernel
theorem off9_c : ∀ (t : Fin 32), k0_off9 (w7 t.val) = ![t.val % 2] := by decide +kernel
theorem off10_c : ∀ (t : Fin 32), k0_off10 (w7 t.val) = ![t.val % 2, 0, 0] := by decide +kernel
theorem off11_c : ∀ (t : Fin 32), k0_off11 (w7 t.val) = ![t.val % 2, 0, 0] := by decide +kernel
theorem off12_c : ∀ (t : Fin 32), k0_off12 (w7 t.val) = ![t.val % 2, 0, 0] := by decide +kernel
theorem off13_c : ∀ (c : Fin 2) (s : Fin 16) (t : Fin 32), k0_off13 (crd c s) (w10 t.val) = ![128 * (base c s + t.val), 0] := by decide +kernel
theorem off14_c : ∀ (t : Fin 32), k0_off14 (w7 t.val) = ![t.val % 2] := by decide +kernel
theorem off15_c : ∀ (t : Fin 31), k0_off15 (w9 (t.val + 1)) = ![t.val % 2, 0, 0] := by decide +kernel
theorem off16_c : ∀ (c : Fin 2) (s : Fin 16) (t : Fin 31), k0_off16 (crd c s) (w10 (t.val + 1)) = ![128 * (base c s + t.val), 0] := by decide +kernel
theorem off17_c : ∀ (t : Fin 31), k0_off17 (w9 (t.val + 1)) = ![t.val % 2] := by decide +kernel
theorem off18_c : k0_off18 (w9 32) = ![1, 0, 0] := by decide +kernel
theorem off19_c : ∀ (c : Fin 2) (s : Fin 16), k0_off19 (crd c s) (w10 32) = ![128 * (base c s + 31), 0] := by decide +kernel
theorem off20_c : k0_off20 (w9 32) = ![1] := by decide +kernel
theorem off21_c : k0_off21 (w9 32) = ![1, 0, 0] := by decide +kernel

theorem chk2_c : ∀ (t : Fin 32), k0_chk2 (w7 t.val) := by decide +kernel
theorem chk3_c : ∀ (t : Fin 32), k0_chk3 (w7 t.val) := by decide +kernel
theorem chk4_c : k0_chk4 (w9 32) := by decide +kernel
theorem chk5_c : ∀ (c : Fin 2) (s : Fin 16), k0_chk5 (crd c s) (w10 32) := by decide +kernel
theorem chk1_c : ∀ (c : Fin 2) (s : Fin 16) (t : Fin 32), k0_chk1 (crd c s) (tr t) (w6 t.val) (w7 t.val) (w7 t.val) (w9 t.val) (w10 t.val) := by decide +kernel

end Cert.Proof

end
-- ==== Proof.Setup.lean ====
/-
  The row gather's program as the launch theorem sees it, and the pieces of its operands one tile works on: the two slots
  of its index window, the two slots of its row window, the 32 blocks of 128 entries of the index list it fetches, the 32
  blocks of 128 rows of the result it writes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds beside the transfers' counters. -/
abbrev UH : Type := URounds (GSem nD τ sig) ℕ
abbrev UU : Type := UH × Counters

abbrev MM (F : FTy → Type) := MT nD τ sig (HIx 1) (Elt F) ℕ UU ℕ
local notation "𝕄" => MM F

abbrev EH : Emb UH (MT nD τ sig (HIx 1) (Elt F) ℕ UU ℕ) := embL

/-! ## Places -/

abbrev xLoc (d : Dev nD) : Loc nD τ sig := (SparseCore.T d).loc main_arg0
abbrev jLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

abbrev cV (c : Fin 2) (s : Fin 16) : Fin τ.nSC := ((crd c s) 0).castLE hcore0
abbrev jV (c : Fin 2) (s : Fin 16) : Fin τ.nSub := ((crd c s) 1).castLE hsub0
/-- The tile at core `c`, subcore `s` of device `d`. -/
abbrev thr (d : Dev nD) (c : Fin 2) (s : Fin 16) : Thread nD τ := V d (cV c s) (jV c s)

abbrev tV : Memref sig Kind.scVector Space.hbm S195584x256 EltTy.i32 := Memref.whole main_arg0_scv
abbrev iV : Memref sig Kind.scVector Space.hbm S1x131072 EltTy.i32 := Memref.whole main_v0_scv
abbrev oV : Memref sig Kind.scVector Space.hbm S131072x256 EltTy.i32 := Memref.whole main_v1_scv
abbrev aV : Memref sig Kind.scVector Space.vmem S2x1x128 EltTy.i32 := Memref.whole cc0_scoped0
abbrev bV : Memref sig Kind.scVector Space.vmem S2x128x256 EltTy.i32 := Memref.whole cc0_scoped2

theorem inb_aS (p : Fin 2) : ∀ a, (![p.val, 0, 0] : Fin 3 → ℕ) a + S1x1x128.size a ≤ S2x1x128.size a := by
  revert p; decide
theorem inb_bS (p : Fin 2) : ∀ a, (![p.val, 0, 0] : Fin 3 → ℕ) a + S1x128x256.size a ≤ S2x128x256.size a := by
  revert p; decide
theorem inb_sS (p : Fin 2) : ∀ a, (![p.val] : Fin 1 → ℕ) a + S1.size a ≤ S2.size a := by
  revert p; decide
theorem inb_iB (c : Fin 2) (s : Fin 16) (t : Fin 32) :
    ∀ a, (![0, 128 * (base c s + t.val)] : Fin 2 → ℕ) a + S1x128.size a ≤ S1x131072.size a := by
  intro a; have := c.isLt; have := s.isLt; have := t.isLt
  match a with
  | 0 => show 0 + 1 ≤ 1; omega
  | 1 => show 128 * (base c s + t.val) + 128 ≤ 131072; unfold base; omega
theorem inb_oB (c : Fin 2) (s : Fin 16) (t : Fin 32) :
    ∀ a, (![128 * (base c s + t.val), 0] : Fin 2 → ℕ) a + S128x256.size a ≤ S131072x256.size a := by
  intro a; have := c.isLt; have := s.isLt; have := t.isLt
  match a with
  | 0 => show 128 * (base c s + t.val) + 128 ≤ 131072; unfold base; omega
  | 1 => show 0 + 256 ≤ 256; omega

/-- Slot `p` of the index window, of the row window; their cells. -/
abbrev aS (p : Fin 2) : Memref sig .scVector .vmem S1x128 .i32 :=
  ((aV).slice (Rect.unit (s := S2x1x128) ![p.val, 0, 0] S1x1x128.size (inb_aS p)) (fun _ => rfl)).squeeze S1x128 squeezes_S1x1x128_S1x128
abbrev bS (p : Fin 2) : Memref sig .scVector .vmem S128x256 .i32 :=
  ((bV).slice (Rect.unit (s := S2x128x256) ![p.val, 0, 0] S1x128x256.size (inb_bS p)) (fun _ => rfl)).squeeze S128x256 squeezes_S1x128x256_S128x256
abbrev s5 (p : Fin 2) : DmaSem sig :=
  ((cc0_scoped1.slice (Rect.unit (s := S2) ![p.val] S1.size (inb_sS p))).squeeze S_ squeezes_S1_S_).sem
abbrev s6 (p : Fin 2) : DmaSem sig :=
  ((cc0_scoped3.slice (Rect.unit (s := S2) ![p.val] S1.size (inb_sS p))).squeeze S_ squeezes_S1_S_).sem

/-- Block `t` of the tile's part of the index list, of the result. -/
abbrev iB (c : Fin 2) (s : Fin 16) (t : Fin 32) : Memref sig .scVector .hbm S1x128 .i32 :=
  (iV).slice (Rect.unit (s := S1x131072) ![0, 128 * (base c s + t.val)] S1x128.size (inb_iB c s t)) (fun _ => rfl)
abbrev oB (c : Fin 2) (s : Fin 16) (t : Fin 32) : Memref sig .scVector .hbm S128x256 .i32 :=
  (oV).slice (Rect.unit (s := S131072x256) ![128 * (base c s + t.val), 0] S128x256.size (inb_oB c s t)) (fun _ => rfl)

/-! ## The gathered rows -/

/-- Entry `(r, l)` of the table. -/
def tix (r : Fin 195584) (l : Fin 256) : S195584x256.Idx :=
  fun | 0 => r | 1 => l | ⟨_ + 2, h⟩ => absurd h (Nat.not_lt.2 (Nat.le_add_left _ _))
/-- Entry `r` of the index list, which has one row. -/
def lix (r : Fin 131072) : S1x131072.Idx :=
  fun | 0 => (0 : Fin 1) | 1 => r | ⟨_ + 2, h⟩ => absurd h (Nat.not_lt.2 (Nat.le_add_left _ _))
/-- Entry `r` of a block of the list. -/
def bix (r : Fin 128) : S1x128.Idx :=
  fun | 0 => (0 : Fin 1) | 1 => r | ⟨_ + 2, h⟩ => absurd h (Nat.not_lt.2 (Nat.le_add_left _ _))

/-- Every entry of the list names a row of the table. -/
def InRows (I : S1x131072.Idx → BitVec 32) : Prop := ∀ x, (I x).toNat < 195584

/-- The result: row `r` is the table's row named by entry `r` of the list. -/
def gath (T : S195584x256.Idx → BitVec 32) (I : S1x131072.Idx → BitVec 32) : S131072x256.Idx → BitVec 32 :=
  fun x => T (tix ⟨(I (lix (x 0))).toNat % 195584, Nat.mod_lt _ (by decide)⟩ (x 1))

end Cert.Proof

end
-- ==== Proof.Ops.lean ====
/-
  One tile's transfers: the fetch of a block of the index list and its wait, the two half-width gathers, the copy of a
  gathered block out to the result and its wait — each at the slot and the block the pipeline's words name.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (c : Fin 2) (s : Fin 16)

/-! ## What a tile holds -/

/-- A slot of the index window, at some contents. -/
abbrev aPts (p : Fin 2) (f : Buf (Elt F) ((aS p).view.loc (thr d c s))) : sProp 𝕄 :=
  (aS p).view.loc (thr d c s) ↦[(aS p).view.set]{fullShare} f
abbrev bPts (p : Fin 2) (f : Buf (Elt F) ((bS p).view.loc (thr d c s))) : sProp 𝕄 :=
  (bS p).view.loc (thr d c s) ↦[(bS p).view.set]{fullShare} f
abbrev iPts (t : Fin 32) (q : PosShare TreeShare) (I : Buf (Elt F) ((iV).view.loc (thr d c s))) : sProp 𝕄 :=
  (iV).view.loc (thr d c s) ↦[(iB c s t).view.set]{q} I
abbrev oPts (t : Fin 32) (G : Buf (Elt F) ((oV).view.loc (thr d c s))) : sProp 𝕄 :=
  (oV).view.loc (thr d c s) ↦[(oB c s t).view.set]{fullShare} G

/-- Slot `p` of the index window holding block `t` of the list. -/
abbrev aHas (t : Fin 32) (p : Fin 2) (I : Buf (Elt F) ((iV).view.loc (thr d c s))) : sProp 𝕄 :=
  iprop(∃ f, ⌜(aS p).view.read (Elt F) f = (iB c s t).view.read (Elt F) I⌝ ∗ aPts d c s p f)
/-- What the fetch of block `t` into slot `p` delivers. -/
abbrev aDel (t : Fin 32) (p : Fin 2) (q : PosShare TreeShare) (I : Buf (Elt F) ((iV).view.loc (thr d c s))) : sProp 𝕄 :=
  iprop(aHas d c s t p I ∗ iPts d c s t q I)
abbrev aFly (t : Fin 32) (p : Fin 2) (q : PosShare TreeShare) (I : Buf (Elt F) ((iV).view.loc (thr d c s))) : sProp 𝕄 :=
  Transfers.Flight countersEmb (thr d c s) (.dma (s5 p)) (default : HIx 1) (aS p).view.dmaCredit (aDel d c s t p q I)

/-- What the copy of slot `p` out to block `t` delivers. -/
abbrev bDel (t : Fin 32) (p : Fin 2) (G : Buf (Elt F) ((oV).view.loc (thr d c s))) : sProp 𝕄 :=
  iprop(oPts d c s t G ∗ ∃ f, bPts d c s p f)
abbrev bFly (t : Fin 32) (p : Fin 2) (G : Buf (Elt F) ((oV).view.loc (thr d c s))) : sProp 𝕄 :=
  Transfers.Flight countersEmb (thr d c s) (.dma (s6 p)) (default : HIx 1) (oB c s t).view.dmaCredit (bDel d c s t p G)

abbrev W1 {β : Type} (p : Prog (TpuEff nD τ sig (Elt F) Λ₀ (thr d c s).2) β) (Q : β → sProp 𝕄) : sProp 𝕄 :=
  wp frame (wpE (defs₀ (F := F)) 𝒱₀ (thr d c s) none) Set.univ p Q

variable {α : Type}
  {k : PUnit → Prog (TpuEff nD τ sig (Elt F) Λ₀ (thr d c s).2) α}

/-! ## The fetch -/

theorem wp_fetch (Ψ : α → sProp 𝕄) (t : Fin 32) (p : Fin 2) (q : PosShare TreeShare) (I : Buf (Elt F) ((iV).view.loc (thr d c s)))
    (o1 : Fin 2 → ℕ) (h1) (e1 : o1 = ![0, 128 * (base c s + t.val)])
    (o2 : Fin 3 → ℕ) (h2) (e2 : o2 = ![p.val, 0, 0]) (o3 : Fin 1 → ℕ) (h3) (e3 : o3 = ![p.val])
    (hsrc) (hdst) (hsem) :
    iprop((iPts d c s t q I) ∗ (∃ f, aPts d c s p f) ∗ semVal (thr d c s, .dma (s5 p)) 0)
      ⊢ iprop((aFly d c s t p q I -∗ W1 d c s (k ⟨⟩) Ψ)
        -∗ W1 d c s (.op (.enqueueDma ((iV).slice (Rect.unit (s := S1x131072) o1 S1x128.size h1) (fun _ => rfl))
            (.here (((aV).slice (Rect.unit (s := S2x1x128) o2 S1x1x128.size h2) (fun _ => rfl)).squeeze S1x128 squeezes_S1x1x128_S1x128))
            (.dma ((cc0_scoped1.slice (Rect.unit (s := S2) o3 S1.size h3)).squeeze S_ squeezes_S1_S_).sem) hsrc hdst hsem) k) Ψ) := by
  subst e1 e2 e3
  iintro ⟨Hi, ⟨%f, Ha⟩, Hs⟩ Hk
  iapply (Transfers.wp_dmaLocal countersEmb 𝒱₀ (thr d c s) none (default : HIx 1) (aS p).view.dmaCredit rfl (View.dmaCredit_pos _ (by decide))
    (Finset.Subset.refl (aS p).view.set)) $$ [Hi Ha Hs]
  · isplitl [Hi]; · iexact Hi
    isplitl [Ha]; · iexact Ha
    iexact Hs
  iintro Hf
  iapply Hk
  iapply (Transfers.Flight_mono countersEmb (thr d c s) _) $$ Hf
  iintro ⟨Ha, Hi⟩
  isplitl [Ha]
  · iexists _
    isplitr
    swap; · iexact Ha
    ipureintro
    exact View.read_write_univ _ _
  · iexact Hi

theorem wp_fetched (Ψ : α → sProp 𝕄) (t : Fin 32) (p : Fin 2) (q : PosShare TreeShare) (I : Buf (Elt F) ((iV).view.loc (thr d c s)))
    {O : CellTallies nD τ sig (HIx 1)} {W : Waits sig (HIx 1)}
    (o1 : Fin 2 → ℕ) (h1)
    (o2 : Fin 3 → ℕ) (h2) (e2 : o2 = ![p.val, 0, 0]) (o3 : Fin 1 → ℕ) (h3) (e3 : o3 = ![p.val])
    (hsrc) (hdst) :
    iprop(aFly d c s t p q I ∗ owes (thr d c s) O W ∗ Transfers.MayWaits (thr d c s) (default : HIx 1) O)
      ⊢ iprop((iprop(aHas d c s t p I ∗ iPts d c s t q I ∗ semVal (thr d c s, .dma (s5 p)) 0
            ∗ owes (thr d c s) O (insert (SemLoc.dma (s5 p), (default : HIx 1)) W)) -∗ W1 d c s (k ⟨⟩) Ψ)
        -∗ W1 d c s (.op (.waitDma2 ((cc0_scoped1.slice (Rect.unit (s := S2) o3 S1.size h3)).squeeze S_ squeezes_S1_S_).sem
            ((iV).slice (Rect.unit (s := S1x131072) o1 S1x128.size h1) (fun _ => rfl))
            (((aV).slice (Rect.unit (s := S2x1x128) o2 S1x1x128.size h2) (fun _ => rfl)).squeeze S1x128 squeezes_S1x1x128_S1x128)
            hsrc hdst) k) Ψ) := by
  subst e2 e3
  iintro ⟨Hf, HO, #Hmw⟩ Hk
  iapply (Transfers.wp_waitLocalO countersEmb 𝒱₀ (thr d c s) none (default : HIx 1) (rfl : (aS p).view.dmaCredit = _)) $$ [Hf HO]
  · isplitl [Hf]; · iexact Hf
    isplitl [HO]; · iexact HO
    iapply (Transfers.MayWaits.elim (SemLoc.dma (s5 p))) $$ Hmw
  iintro ⟨⟨Ha, Hi⟩, Hs, HO⟩
  iapply Hk
  isplitl [Ha]; · iexact Ha
  isplitl [Hi]; · iexact Hi
  isplitl [Hs]; · iexact Hs
  iexact HO

/-! ## The copy out -/

theorem wp_out (Ψ : α → sProp 𝕄) (t : Fin 32) (p : Fin 2) (f : Buf (Elt F) ((bS p).view.loc (thr d c s)))
    (f₀ G : Buf (Elt F) ((oV).view.loc (thr d c s)))
    (hG : ∀ x, (bS p).view.read (Elt F) f x = (oB c s t).view.read (Elt F) G x)
    (o1 : Fin 2 → ℕ) (h1) (e1 : o1 = ![128 * (base c s + t.val), 0])
    (o2 : Fin 3 → ℕ) (h2) (e2 : o2 = ![p.val, 0, 0]) (o3 : Fin 1 → ℕ) (h3) (e3 : o3 = ![p.val])
    (hsrc) (hdst) (hsem) :
    iprop((bPts d c s p f) ∗ (oPts d c s t f₀) ∗ semVal (thr d c s, .dma (s6 p)) 0)
      ⊢ iprop((bFly d c s t p G -∗ W1 d c s (k ⟨⟩) Ψ)
        -∗ W1 d c s (.op (.enqueueDma (((bV).slice (Rect.unit (s := S2x128x256) o2 S1x128x256.size h2) (fun _ => rfl)).squeeze S128x256 squeezes_S1x128x256_S128x256)
            (.here ((oV).slice (Rect.unit (s := S131072x256) o1 S128x256.size h1) (fun _ => rfl)))
            (.dma ((cc0_scoped3.slice (Rect.unit (s := S2) o3 S1.size h3)).squeeze S_ squeezes_S1_S_).sem) hsrc hdst hsem) k) Ψ) := by
  subst e1 e2 e3
  iintro ⟨Hb, Ho, Hs⟩ Hk
  iapply (Transfers.wp_dmaLocal countersEmb 𝒱₀ (thr d c s) none (default : HIx 1) (oB c s t).view.dmaCredit rfl (View.dmaCredit_pos _ (by decide))
    (Finset.Subset.refl (oB c s t).view.set)) $$ [Hb Ho Hs]
  · isplitl [Hb]; · iexact Hb
    isplitl [Ho]; · iexact Ho
    iexact Hs
  iintro Hf
  iapply Hk
  iapply (Transfers.Flight_mono countersEmb (thr d c s) _) $$ Hf
  iintro ⟨Ho, Hb⟩
  isplitl [Ho]
  · iapply (Entails.of_eq (pointsTo_congr (ℓ := (oV).view.loc (thr d c s)) (I := (oB c s t).view.set) (q := fullShare) (fun i hi => by
      obtain ⟨x, -, rfl⟩ := Finset.mem_map.mp hi
      rw [View.write_emb_of_mem _ _ (Finset.mem_univ x)]
      have := hG x
      rw [View.read_apply (v := (oB c s t).view)] at this
      exact this))) $$ Ho
  · iexists f; iexact Hb

theorem wp_outed (Ψ : α → sProp 𝕄) (t : Fin 32) (p : Fin 2) (G : Buf (Elt F) ((oV).view.loc (thr d c s)))
    {O : CellTallies nD τ sig (HIx 1)} {W : Waits sig (HIx 1)}
    (o1 : Fin 2 → ℕ) (h1) (e1 : o1 = ![128 * (base c s + t.val), 0])
    (o2 : Fin 3 → ℕ) (h2) (o3 : Fin 1 → ℕ) (h3) (e3 : o3 = ![p.val])
    (hsrc) (hdst) :
    iprop(bFly d c s t p G ∗ owes (thr d c s) O W ∗ Transfers.MayWaits (thr d c s) (default : HIx 1) O)
      ⊢ iprop((iprop(oPts d c s t G ∗ (∃ f, bPts d c s p f) ∗ semVal (thr d c s, .dma (s6 p)) 0
            ∗ owes (thr d c s) O (insert (SemLoc.dma (s6 p), (default : HIx 1)) W)) -∗ W1 d c s (k ⟨⟩) Ψ)
        -∗ W1 d c s (.op (.waitDma2 ((cc0_scoped3.slice (Rect.unit (s := S2) o3 S1.size h3)).squeeze S_ squeezes_S1_S_).sem
            (((bV).slice (Rect.unit (s := S2x128x256) o2 S1x128x256.size h2) (fun _ => rfl)).squeeze S128x256 squeezes_S1x128x256_S128x256)
            ((oV).slice (Rect.unit (s := S131072x256) o1 S128x256.size h1) (fun _ => rfl))
            hsrc hdst) k) Ψ) := by
  subst e1 e3
  iintro ⟨Hf, HO, #Hmw⟩ Hk
  iapply (Transfers.wp_waitLocalO countersEmb 𝒱₀ (thr d c s) none (default : HIx 1) (rfl : (oB c s t).view.dmaCredit = _)) $$ [Hf HO]
  · isplitl [Hf]; · iexact Hf
    isplitl [HO]; · iexact HO
    iapply (Transfers.MayWaits.elim (SemLoc.dma (s6 p))) $$ Hmw
  iintro ⟨⟨Ho, Hb⟩, Hs, HO⟩
  iapply Hk
  isplitl [Ho]; · iexact Ho
  isplitl [Hb]; · iexact Hb
  isplitl [Hs]; · iexact Hs
  iexact HO

/-! ## The gather of one half of the columns -/

/-- The half of slot `p` of the row window at column `col`; the table's. -/
abbrev bH (p : Fin 2) (col : ℕ) (h : ∀ a, (![0, col] : Fin 2 → ℕ) a + S128x128.size a ≤ S128x256.size a) : Memref sig .scVector .vmem S128x128 .i32 :=
  (bS p).slice (Rect.unit (s := S128x256) ![0, col] S128x128.size h) (fun _ => rfl)
abbrev tH (col : ℕ) (h : ∀ a, (![0, col] : Fin 2 → ℕ) a + S195584x128.size a ≤ S195584x256.size a) : Memref sig .scVector .hbm S195584x128 .i32 :=
  (tV).slice (Rect.unit (s := S195584x256) ![0, col] S195584x128.size h) (fun _ => rfl)
/-- The list of slot `p`. -/
abbrev aL (p : Fin 2) : Memref sig .scVector .vmem S128 .i32 :=
  ((aS p).slice (Rect.unit (s := S1x128) ![0, 0] S1x128.size inb_S1x128_S1x128_0_0) (fun _ => rfl)).squeeze S128 squeezes_S1x128_S128

theorem aL_set (p : Fin 2) : (aL p).view.set = (aS p).view.set := by
  show (((aS p).view.slice (Rect.unit (s := S1x128) ![0, 0] S1x128.size inb_S1x128_S1x128_0_0)).reshape S128 squeezes_S1x128_S128.numel_eq).set = (aS p).view.set
  rw [View.set_reshape, View.set_slice]
  unfold View.set
  congr 1

end Cert.Proof

end
-- ==== Proof.Half.lean ====
/-
  One half-width gather of a tile: the 128 rows the slot of the index window names, read at 128 of the table's columns
  into the same columns of the slot of the row window; and what the slot holds after it.
-/
module

public import proofs.«01_k».proof.Proof.Ops

@[expose] public section

noncomputable section

namespace Cert.Proof

open Cert.KernelIdeal Cert.KernelIdeal.Gen

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (c : Fin 2) (s : Fin 16)

/-! ## The list a slot holds -/

def one128 (k : Fin 128) : S128.Idx := fun | 0 => k | ⟨_ + 1, h⟩ => absurd h (Nat.not_lt.2 (Nat.le_add_left _ _))

theorem one128_eta (z : S128.Idx) : one128 (z 0) = z := by
  funext a; match a with | 0 => rfl

theorem list_pos (k : Fin 128) :
    (Rect.unit (s := S1x128) ![0, 0] S1x128.size inb_S1x128_S1x128_0_0).emb
      (Shape.reshapeEquiv squeezes_S1x128_S128.numel_eq (one128 k)) = bix k := by
  revert k; decide +kernel

theorem list_entry (k : Fin 128) : S128.rowMajor.symm (Fin.cast (show 128 = S128.numel from rfl) k) = one128 k := by
  revert k; decide +kernel

theorem aL_read (p : Fin 2) (f : Buf (Elt F) ((aS p).view.loc (thr d c s))) (k : Fin 128) :
    (aL p).view.read (Elt F) f (one128 k) = (aS p).view.read (Elt F) f (bix k) := by
  rw [← list_pos k]
  rfl

theorem blk_lt (c : Fin 2) (s : Fin 16) (t : Fin 32) (k : Fin 128) : 128 * (base c s + t.val) + k.val < 131072 := by
  have := c.isLt; have := s.isLt; have := t.isLt; have := k.isLt; unfold base; omega

/-- Entry `k` of block `t` of the index list. -/
theorem iB_read (t : Fin 32) (I : Buf (Elt F) ((iV).view.loc (thr d c s))) (k : Fin 128) (h : 128 * (base c s + t.val) + k.val < 131072) :
    (iB c s t).view.read (Elt F) I (bix k) = I (lix ⟨128 * (base c s + t.val) + k.val, h⟩) := by
  refine (View.read_apply (v := (iB c s t).view) I (bix k)).trans ?_
  refine congrArg I ?_
  funext a
  match a with
  | 0 => rfl
  | 1 => exact Fin.ext (by
      show 128 * (base c s + t.val) + 1 * k.val = _
      rw [Nat.one_mul]; rfl)

theorem aL_entry (t : Fin 32) (p : Fin 2) (I : Buf (Elt F) ((iV).view.loc (thr d c s)))
    (fo : Buf (Elt F) ((aS p).view.loc (thr d c s))) (hfo : (aS p).view.read (Elt F) fo = (iB c s t).view.read (Elt F) I) (k : Fin 128) :
    (aL p).view.read (Elt F) fo (one128 k) = I (lix ⟨128 * (base c s + t.val) + k.val, blk_lt c s t k⟩) :=
  (aL_read d c s p fo k).trans ((congrFun hfo _).trans (iB_read d c s t I k (blk_lt c s t k)))

/-- What block `t` of the result is to hold. -/
abbrev blk (t : Fin 32) (G : Buf (Elt F) ((oV).view.loc (thr d c s))) : S128x256.Idx → BitVec 32 :=
  (oB c s t).view.read (Elt F) G

abbrev gathB (T : Buf (Elt F) ((tV).view.loc (thr d c s))) (I : Buf (Elt F) ((iV).view.loc (thr d c s))) :
    Buf (Elt F) ((oV).view.loc (thr d c s)) := gath T I

theorem blk_gath (t : Fin 32) (T : Buf (Elt F) ((tV).view.loc (thr d c s))) (I : Buf (Elt F) ((iV).view.loc (thr d c s)))
    (x : S128x256.Idx) :
    blk d c s t (gathB d c s T I) x
      = T (tix ⟨(I (lix ⟨128 * (base c s + t.val) + (x 0).val, blk_lt c s t (x 0)⟩) : BitVec 32).toNat % 195584, Nat.mod_lt _ (by decide)⟩ (x 1)) := by
  refine (View.read_apply (v := (oB c s t).view) _ x).trans ?_
  show gath T I ((oB c s t).view.emb x) = _
  have e0 : ((oB c s t).view.emb x) 0 = ⟨128 * (base c s + t.val) + (x 0).val, blk_lt c s t (x 0)⟩ :=
    Fin.ext (by show 128 * (base c s + t.val) + 1 * (x 0).val = _; rw [Nat.one_mul])
  have e1 : ((oB c s t).view.emb x) 1 = x 1 := Fin.ext (by show 0 + 1 * (x 1).val = _; omega)
  exact congrArg₂ (fun (r : Fin 131072) (l : Fin 256) =>
    T (tix ⟨(I (lix r) : BitVec 32).toNat % 195584, Nat.mod_lt _ (by decide)⟩ l)) e0 e1

/-! ## The half's contents -/

theorem half_write (t : Fin 32) (p : Fin 2) (col : ℕ) (hb : ∀ a, (![0, col] : Fin 2 → ℕ) a + S128x128.size a ≤ S128x256.size a)
    (ht : ∀ a, (![0, col] : Fin 2 → ℕ) a + S195584x128.size a ≤ S195584x256.size a)
    (T : Buf (Elt F) ((tV).view.loc (thr d c s))) (I : Buf (Elt F) ((iV).view.loc (thr d c s)))
    (fo : Buf (Elt F) ((aS p).view.loc (thr d c s))) (hfo : (aS p).view.read (Elt F) fo = (iB c s t).view.read (Elt F) I)
    (fd : Buf (Elt F) ((bS p).view.loc (thr d c s)))
    (hin : ∀ x, ((aL p).view.read (Elt F) fo x).toNat < S195584x128.size gathers_S195584x128_S128x128.axis)
    (x : S128x256.Idx) :
    (bS p).view.read (Elt F) ((bH p col hb).view.write (Elt F) fd (gatherPayload gathers_S195584x128_S128x128 ((tH col ht).view.read (Elt F) T)
        (rows ((aL p).view.read (Elt F) fo) rfl hin)) Finset.univ) x
      = if col ≤ (x 1).val ∧ (x 1).val < col + 128 then blk d c s t (gathB d c s T I) x else (bS p).view.read (Elt F) fd x := by
  split
  · rename_i hx
    let y : S128x128.Idx := fun | 0 => x 0 | 1 => ⟨(x 1).val - col, show _ < 128 by omega⟩ | ⟨_ + 2, h⟩ => absurd h (Nat.not_lt.2 (Nat.le_add_left _ _))
    have hy : (Rect.unit (s := S128x256) ![0, col] S128x128.size hb).emb y = x := by
      funext a
      match a with
      | 0 => exact Fin.ext (by show 0 + 1 * (x 0).val = _; omega)
      | 1 => exact Fin.ext (by show col + 1 * ((x 1).val - col) = _; omega)
    conv_lhs => rw [← hy]
    refine (View.read_slice_write_emb (v := (bS p).view) _ fd _ (Finset.mem_univ y)).trans ?_
    rw [blk_gath]
    show (tH col ht).view.read (Elt F) T (gathers_S195584x128_S128x128.idx _ y) = _
    refine (View.read_apply (v := (tH col ht).view) T _).trans ?_
    refine congrArg T ?_
    have hrow : ((aL p).view.read (Elt F) fo (S128.rowMajor.symm (Fin.cast (show 128 = S128.numel from rfl) (x 0))) : BitVec 32)
        = I (lix ⟨128 * (base c s + t.val) + (x 0).val, blk_lt c s t (x 0)⟩) := by
      exact (congrArg ((aL p).view.read (Elt F) fo) (list_entry (x 0))).trans (aL_entry d c s t p I fo hfo (x 0))
    have hlt : (I (lix ⟨128 * (base c s + t.val) + (x 0).val, blk_lt c s t (x 0)⟩) : BitVec 32).toNat < 195584 :=
      hrow ▸ hin (S128.rowMajor.symm (Fin.cast (show 128 = S128.numel from rfl) (x 0)))
    funext a
    match a with
    | 0 =>
      refine Fin.ext ?_
      show 0 + 1 * (gathers_S195584x128_S128x128.idx _ y gathers_S195584x128_S128x128.axis).val = _ % 195584
      rw [Shape.Gathers.idx_axis]
      refine Eq.trans ?_ (Nat.mod_eq_of_lt hlt).symm
      refine (Nat.zero_add _).trans ((Nat.one_mul _).trans ?_)
      exact (congrArg (fun w : BitVec 32 => w.toNat) hrow : _)
    | 1 =>
      refine Fin.ext ?_
      show col + 1 * (gathers_S195584x128_S128x128.idx _ y 1).val = (x 1).val
      rw [Shape.Gathers.idx_of_ne _ _ _ _ (by decide)]
      show col + 1 * ((x 1).val - col) = _
      omega
  · rename_i hx
    refine View.read_slice_write_of_not_mem (v := (bS p).view) _ fd _ Finset.univ ?_
    intro hm
    obtain ⟨y, -, rfl⟩ := Finset.mem_map.mp hm
    refine hx ⟨?_, ?_⟩
    · show col ≤ col + 1 * (y 1).val; omega
    · show col + 1 * (y 1).val < col + 128
      have : (y 1).val < 128 := (y 1).isLt
      omega

/-! ## The gather -/

variable {α : Type}
  {k : PUnit → Prog (TpuEff nD τ sig (Elt F) Λ₀ (thr d c s).2) α}

theorem wp_half (Ψ : α → sProp 𝕄) (t : Fin 32) (p : Fin 2) (col : ℕ)
    (hb : ∀ a, (![0, col] : Fin 2 → ℕ) a + S128x128.size a ≤ S128x256.size a)
    (ht : ∀ a, (![0, col] : Fin 2 → ℕ) a + S195584x128.size a ≤ S195584x256.size a)
    (hN : ∑ j, ((bH p col hb).slice (S128x128.rowRect gathers_S195584x128_S128x128.axis' j) (S128x128.stride_rowRect gathers_S195584x128_S128x128.axis' j)).view.dmaCredit = (bH p col hb).view.dmaCredit)
    (q : PosShare TreeShare)
    (T : Buf (Elt F) ((tV).view.loc (thr d c s))) (I : Buf (Elt F) ((iV).view.loc (thr d c s))) (hI : InRows I)
    (fd : Buf (Elt F) ((bS p).view.loc (thr d c s)))
    {O : CellTallies nD τ sig (HIx 1)} {W : Waits sig (HIx 1)} (sem : DmaSem sig)
    (o1 : Fin 3 → ℕ) (h1) (e1 : o1 = ![p.val, 0, 0]) (o2 : Fin 3 → ℕ) (h2) (e2 : o2 = ![p.val, 0, 0])
    (hp) (hsrc) (he) (hr) (hw1) (hw2) :
    iprop(((tV).view.loc (thr d c s) ↦[(tH col ht).view.set]{q} T) ∗ aHas d c s t p I ∗ bPts d c s p fd ∗ semVal (thr d c s, .dma sem) 0
        ∗ owes (thr d c s) O W ∗ Transfers.MayWaits (thr d c s) (default : HIx 1) O)
      ⊢ iprop((iprop(((tV).view.loc (thr d c s) ↦[(tH col ht).view.set]{q} T) ∗ aHas d c s t p I
            ∗ (∃ fd', ⌜∀ x, (bS p).view.read (Elt F) fd' x = if col ≤ (x 1).val ∧ (x 1).val < col + 128 then blk d c s t (gathB d c s T I) x else (bS p).view.read (Elt F) fd x⌝ ∗ bPts d c s p fd')
            ∗ semVal (thr d c s, .dma sem) 0
            ∗ owes (thr d c s) O (insert (SemLoc.dma sem, (default : HIx 1)) W)) -∗ W1 d c s (k ⟨⟩) Ψ)
        -∗ W1 d c s (SparseCore.enqueueIndirectGather hp (tH col ht)
            ((((bV).slice (Rect.unit (s := S2x128x256) o1 S1x128x256.size h1) (fun _ => rfl)).squeeze S128x256 squeezes_S1x128x256_S128x256).slice (Rect.unit (s := S128x256) ![0, col] S128x128.size hb) (fun _ => rfl))
            gathers_S195584x128_S128x128
            (((((aV).slice (Rect.unit (s := S2x1x128) o2 S1x1x128.size h2) (fun _ => rfl)).squeeze S1x128 squeezes_S1x1x128_S1x128).slice (Rect.unit (s := S1x128) ![0, 0] S1x128.size inb_S1x128_S1x128_0_0) (fun _ => rfl)).squeeze S128 squeezes_S1x128_S128)
            rfl sem hsrc he (Or.inl rfl) hr >>= fun _ =>
          SparseCore.waitIndirectGather sem (tH col ht)
            ((((bV).slice (Rect.unit (s := S2x128x256) o1 S1x128x256.size h1) (fun _ => rfl)).squeeze S128x256 squeezes_S1x128x256_S128x256).slice (Rect.unit (s := S128x256) ![0, col] S128x128.size hb) (fun _ => rfl))
            hw1 hw2 >>= k) Ψ) := by
  subst e1 e2
  iintro ⟨Ht, ⟨%fo, %hfo, Ha⟩, Hb, Hs, HO, #Hmw⟩ Hk
  have hin : ∀ x, ((aL p).view.read (Elt F) fo x).toNat < S195584x128.size gathers_S195584x128_S128x128.axis := by
    intro x
    have e := aL_entry d c s t p I fo hfo (x 0)
    refine lt_of_eq_of_lt (congrArg BitVec.toNat ((congrArg ((aL p).view.read (Elt F) fo) (one128_eta x).symm).trans e)) ?_
    exact hI _
  have hsub : (bH p col hb).view.set ⊆ (bS p).view.set := View.set_slice_subset (v := (bS p).view) _
  ihave Hb2 := (pointsTo_split_subset (ℓ := (bS p).view.loc (thr d c s)) (q := fullShare) (f := fd) hsub).1 $$ Hb
  icases Hb2 with ⟨Hbh, Hbr⟩
  ihave Ha2 := (Entails.of_eq (congrArg (fun S => ((aS p).view.loc (thr d c s) ↦[S]{fullShare} fo : sProp 𝕄)) (aL_set p).symm)) $$ Ha
  iapply (SparseCore.wp_indirectGatherLocal countersEmb 𝒱₀ (thr d c s) none (hg := gathers_S195584x128_S128x128) (default : HIx 1)
    (bH p col hb).view.dmaCredit hN (by decide) hin) $$ [Ht Hbh Ha2 Hs]
  · isplitl [Ht]; · iexact Ht
    isplitl [Hbh]; · iexact Hbh
    isplitl [Ha2]; · iexact Ha2
    iexact Hs
  iintro Hf
  iapply (Transfers.wp_waitLocalO countersEmb 𝒱₀ (thr d c s) none (default : HIx 1) (rfl : (bH p col hb).view.dmaCredit = _)) $$ [Hf HO]
  · isplitl [Hf]; · iexact Hf
    isplitl [HO]; · iexact HO
    iapply (Transfers.MayWaits.elim (SemLoc.dma sem)) $$ Hmw
  iintro ⟨⟨Hbh, Ht, Ha⟩, Hs, HO⟩
  iapply Hk
  isplitl [Ht]; · iexact Ht
  isplitl [Ha]
  · iexists fo
    isplitr; · ipureintro; exact hfo
    iapply (Entails.of_eq (congrArg (fun S => ((aS p).view.loc (thr d c s) ↦[S]{fullShare} fo : sProp 𝕄)) (aL_set p))) $$ Ha
  isplitl [Hbh Hbr]
  · iexists _
    isplitr
    swap
    · iapply (pointsTo_split_subset (ℓ := (bS p).view.loc (thr d c s)) (q := fullShare) hsub).2
      isplitl [Hbh]; · iexact Hbh
      iapply (Entails.of_eq (pointsTo_congr (ℓ := (bS p).view.loc (thr d c s)) (q := fullShare) (fun i hi => by
        exact (View.write_of_not_mem (v := (bH p col hb).view) _ _ _ (Finset.mem_sdiff.mp hi).2).symm))) $$ Hbr
    · ipureintro
      exact half_write d c s t p col hb ht T I fo hfo fd hin
  isplitl [Hs]; · iexact Hs
  iexact HO

end Cert.Proof

end
-- ==== Proof.Trip.lean ====
/-
  One trip of a tile's loop: the fetch of the next block of the list, the wait for this trip's, the two half-width
  gathers, the copy out of the gathered block, the wait for the last trip's copy.
-/
module

public import proofs.«01_k».proof.Proof.Half

@[expose] public section

noncomputable section

namespace Cert.Proof

open Cert.KernelIdeal Cert.KernelIdeal.Gen

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## Slots and blocks by number -/

abbrev par (n : ℕ) : Fin 2 := ⟨n % 2, Nat.mod_lt _ (by decide)⟩
abbrev f32 (n : ℕ) : Fin 32 := ⟨n % 32, Nat.mod_lt _ (by decide)⟩

theorem par_add_two (n : ℕ) : par (n + 1 + 1) = par n := Fin.ext (by show (n + 1 + 1) % 2 = n % 2; omega)
theorem par_pred {n : ℕ} (h : 0 < n) : par (n + 1) = par (n - 1) := Fin.ext (by show (n + 1) % 2 = (n - 1) % 2; omega)
theorem f32_val (t : Fin 32) : f32 t.val = t := Fin.ext (Nat.mod_eq_of_lt t.isLt)

variable (d : Dev nD) (c : Fin 2) (s : Fin 16)
  (qi : Fin 2 → PosShare TreeShare) (qt : PosShare TreeShare)
  (T : Buf (Elt F) ((tV).view.loc (thr d c s))) (I : Buf (Elt F) ((iV).view.loc (thr d c s)))
  (o0 : Buf (Elt F) ((oV).view.loc (thr d c s)))
  (O : CellTallies nD τ sig (HIx 1)) (W : Waits sig (HIx 1))

/-! ## What a tile holds between trips -/

abbrev iAll (p : Fin 2) : sProp 𝕄 := (iV).view.loc (thr d c s) ↦{qi p} I
abbrev tAll : sProp 𝕄 := (tV).view.loc (thr d c s) ↦{qt} T

/-- Slot `p` of the index window idle. -/
abbrev AFree (p : Fin 2) : sProp 𝕄 :=
  iprop((∃ f, aPts d c s p f) ∗ semVal (thr d c s, .dma (s5 p)) 0 ∗ iAll d c s qi I p)
/-- Slot `p` being filled with block `t`. -/
abbrev ALd (t : Fin 32) (p : Fin 2) : sProp 𝕄 :=
  iprop(aFly d c s t p (qi p) I ∗ (iV).view.loc (thr d c s) ↦[Finset.univ \ (iB c s t).view.set]{qi p} I)
/-- Slot `p` of the row window idle. -/
abbrev BFree (p : Fin 2) : sProp 𝕄 := iprop((∃ f, bPts d c s p f) ∗ semVal (thr d c s, .dma (s6 p)) 0)

abbrev G : Buf (Elt F) ((oV).view.loc (thr d c s)) := gathB d c s T I

abbrev OW : sProp 𝕄 := iprop(∃ W', ⌜∀ p ∈ W', p ∈ W ∨ p.2 = none⌝ ∗ owes (thr d c s) O W')

/-- The fetch side before trip `n`: block `n` under way (if there is one). -/
def ANow (n : ℕ) : sProp 𝕄 := if n < 32 then ALd d c s qi I (f32 n) (par n) else AFree d c s qi I (par n)
/-- The output side before trip `n`: block `n - 1` under way (if there is one). -/
def BPrev (n : ℕ) : sProp 𝕄 := if 0 < n then bFly d c s (f32 (n - 1)) (par (n + 1)) (G d c s T I) else BFree d c s (par (n + 1))

/-! ## The first part: the next fetch -/

abbrev v4w (c : Fin 2) (s : Fin 16) : BitVec 32 :=
  Scalar.muli (Scalar.addi (Scalar.addi 0#32 (Scalar.muli (BitVec.ofNat 32 ((crd c s) 1).val) 1#32)) (Scalar.muli (BitVec.ofNat 32 ((crd c s) 0).val) 16#32)) 32#32

variable {α : Type}

set_option maxHeartbeats 2000000 in
theorem wp_part1 (Ψ : α → sProp 𝕄) (t : Fin 32) (v4 : BitVec 32)
    {k : _ → Prog (TpuEff nD τ sig (Elt F) Λ₀ (thr d c s).2) α} :
    iprop(AFree d c s qi I (par (t.val + 1)))
      ⊢ iprop((ANow d c s qi I (t.val + 1) -∗ W1 d c s (k
          (let arg10 := w10 t.val
           let arg5 := Scf.iv 0#32 1#32 (tr t)
           let v66 := Scalar.addi arg10 v4
           let v68 := Scalar.select 1#1 (Scalar.subi arg10 1#32) arg10
           let v71 := Scalar.addi (Scalar.select (Scalar.cmpi .eq v68 4294967295#32) 31#32 v68) v4
           let v73 := Scalar.select 1#1 (Scalar.addi arg10 1#32) arg10
           let v76 := Scalar.addi (Scalar.select (Scalar.cmpi .eq v73 32#32) 0#32 v73) v4
           let v85 := Scalar.andi (Scalar.cmpi .ne v66 v76) (Scalar.xori (Scalar.cmpi .sge arg5 31#32) 1#1)
           let v91 := Scalar.select (Scalar.andi v85 1#1) (Scalar.addi (w6 t.val) 1#32) (w6 t.val)
           ⟨chk3_c t, chk2_c t, chk1_c c s t, arg5, Scalar.cmpi .eq arg5 0#32, Scalar.cmpi .eq arg5 31#32, v66, v71, v76, v91, Scalar.cmpi .ne v66 v71⟩)) Ψ)
        -∗ W1 d c s (k0_part1 (crd c s) tV (Memref.isWhole_whole _) iV (Memref.isWhole_whole _) oV (Memref.isWhole_whole _) aV (Memref.isWhole_whole _)
            cc0_scoped1 bV (Memref.isWhole_whole _) cc0_scoped3 cc0_scoped4 cc0_scoped5 v4 0#32 1#32 (tr t) (w6 t.val) (w7 t.val) (w7 t.val) (w9 t.val) (w10 t.val) >>= k) Ψ) := by
  simp only [k0_part1_eq_skeleton]; unfold k0_part1_skel
  simp only [Prog.lift, Prog.bind_op, Prog.bind_ret, Prog.pure_eq_ret, Prog.bind_assoc]
  unfold W1
  rw [wp_assume_of _ _ _ _ (chk3_c t), wp_assume_of _ _ _ _ (chk2_c t), wp_assume_of _ _ _ _ (chk1_c c s t)]
  iintro HA Hk
  by_cases h : t.val < 31
  · have hc : k0_cond1 (crd c s) (tr t) (w10 t.val) = 1#1 := by rw [cond1_c]; exact h
    rw [dif_pos hc]
    simp only [Prog.bind_op, Prog.bind_ret]
    icases HA with ⟨Ha, Hs, Hi⟩
    have hsub : (iB c s (f32 (t.val + 1))).view.set ⊆ Finset.univ := Finset.subset_univ _
    ihave Hi2 := (pointsTo_split_subset (ℓ := (iV).view.loc (thr d c s)) (q := qi (par (t.val + 1))) (f := I) hsub).1 $$ Hi
    icases Hi2 with ⟨Hib, Hir⟩
    have e32 : (f32 (t.val + 1)).val = t.val + 1 := Nat.mod_eq_of_lt (by omega)
    iapply (wp_fetch d c s Ψ (f32 (t.val + 1)) (par (t.val + 1)) (qi (par (t.val + 1))) I _ _
      (by rw [e32]; exact off5_c c s ⟨t.val, h⟩) _ _ (off4_c ⟨t.val, h⟩) _ _ (off6_c ⟨t.val, h⟩)) $$ [Ha Hs Hib]
    · isplitl [Hib]; · iexact Hib
      isplitl [Ha]; · iexact Ha
      iexact Hs
    iintro Hf
    iapply Hk
    unfold ANow
    rw [if_pos (show t.val + 1 < 32 by omega)]
    isplitl [Hf]; · iexact Hf
    iexact Hir
  · have hc : ¬ k0_cond1 (crd c s) (tr t) (w10 t.val) = 1#1 := by rw [cond1_c]; exact h
    rw [dif_neg hc]
    simp only [Prog.bind_ret]
    iapply Hk
    unfold ANow
    rw [if_neg (show ¬ t.val + 1 < 32 by omega)]
    iexact HA

/-! ## The gathers -/

theorem dmaCredit_half0 : ∀ (p : Fin 2) (hb : ∀ a, (![0, 0] : Fin 2 → ℕ) a + S128x128.size a ≤ S128x256.size a) (h : S195584x128.Gathers 0 S128x128),
    ∑ j, ((bH p 0 hb).slice (S128x128.rowRect h.axis' j) (S128x128.stride_rowRect h.axis' j)).view.dmaCredit = (bH p 0 hb).view.dmaCredit := by
  decide
theorem dmaCredit_half1 : ∀ (p : Fin 2) (hb : ∀ a, (![0, 128] : Fin 2 → ℕ) a + S128x128.size a ≤ S128x256.size a) (h : S195584x128.Gathers 0 S128x128),
    ∑ j, ((bH p 128 hb).slice (S128x128.rowRect h.axis' j) (S128x128.stride_rowRect h.axis' j)).view.dmaCredit = (bH p 128 hb).view.dmaCredit := by
  decide

theorem OW_insert (sm : SemLoc sig) (W' : Waits sig (HIx 1)) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- One half-width gather, from all of the table. -/
theorem wp_halfT (Ψ : α → sProp 𝕄) {k : PUnit → Prog (TpuEff nD τ sig (Elt F) Λ₀ (thr d c s).2) α} (t : Fin 32) (p : Fin 2) (col : ℕ)
    (hb : ∀ a, (![0, col] : Fin 2 → ℕ) a + S128x128.size a ≤ S128x256.size a)
    (ht : ∀ a, (![0, col] : Fin 2 → ℕ) a + S195584x128.size a ≤ S195584x256.size a)
    (hN : ∑ j, ((bH p col hb).slice (S128x128.rowRect gathers_S195584x128_S128x128.axis' j) (S128x128.stride_rowRect gathers_S195584x128_S128x128.axis' j)).view.dmaCredit = (bH p col hb).view.dmaCredit)
    (hI : InRows I) (fd : Buf (Elt F) ((bS p).view.loc (thr d c s))) (sem : DmaSem sig)
    (o1 : Fin 3 → ℕ) (h1) (e1 : o1 = ![p.val, 0, 0]) (o2 : Fin 3 → ℕ) (h2) (e2 : o2 = ![p.val, 0, 0])
    (hp) (hsrc) (he) (hr) (hw1) (hw2) :
    iprop(tAll d c s qt T ∗ aHas d c s t p I ∗ bPts d c s p fd ∗ semVal (thr d c s, .dma sem) 0
        ∗ OW d c s O W ∗ Transfers.MayWaits (thr d c s) (default : HIx 1) O)
      ⊢ iprop((iprop(tAll d c s qt T ∗ aHas d c s t p I
            ∗ (∃ fd', ⌜∀ x, (bS p).view.read (Elt F) fd' x = if col ≤ (x 1).val ∧ (x 1).val < col + 128 then blk d c s t (G d c s T I) x else (bS p).view.read (Elt F) fd x⌝ ∗ bPts d c s p fd')
            ∗ semVal (thr d c s, .dma sem) 0
            ∗ OW d c s O W) -∗ W1 d c s (k ⟨⟩) Ψ)
        -∗ W1 d c s (SparseCore.enqueueIndirectGather hp (tH col ht)
            ((((bV).slice (Rect.unit (s := S2x128x256) o1 S1x128x256.size h1) (fun _ => rfl)).squeeze S128x256 squeezes_S1x128x256_S128x256).slice (Rect.unit (s := S128x256) ![0, col] S128x128.size hb) (fun _ => rfl))
            gathers_S195584x128_S128x128
            (((((aV).slice (Rect.unit (s := S2x1x128) o2 S1x1x128.size h2) (fun _ => rfl)).squeeze S1x128 squeezes_S1x1x128_S1x128).slice (Rect.unit (s := S1x128) ![0, 0] S1x128.size inb_S1x128_S1x128_0_0) (fun _ => rfl)).squeeze S128 squeezes_S1x128_S128)
            rfl sem hsrc he (Or.inl rfl) hr >>= fun _ =>
          SparseCore.waitIndirectGather sem (tH col ht)
            ((((bV).slice (Rect.unit (s := S2x128x256) o1 S1x128x256.size h1) (fun _ => rfl)).squeeze S128x256 squeezes_S1x128x256_S128x256).slice (Rect.unit (s := S128x256) ![0, col] S128x128.size hb) (fun _ => rfl))
            hw1 hw2 >>= k) Ψ) := by
  iintro ⟨Ht, Ha, Hb, Hs, ⟨%W', %hW', HO⟩, #Hmw⟩ Hk
  have hsub : (tH col ht).view.set ⊆ Finset.univ := Finset.subset_univ _
  ihave Ht2 := (pointsTo_split_subset (ℓ := (tV).view.loc (thr d c s)) (q := qt) (f := T) hsub).1 $$ Ht
  icases Ht2 with ⟨Hth, Htr⟩
  iapply (wp_half d c s Ψ t p col hb ht hN qt T I hI fd sem o1 h1 e1 o2 h2 e2) $$ [Hth Ha Hb Hs HO]
  · isplitl [Hth]; · iexact Hth
    isplitl [Ha]; · iexact Ha
    isplitl [Hb]; · iexact Hb
    isplitl [Hs]; · iexact Hs
    isplitl [HO]; · iexact HO
    iexact Hmw
  iintro ⟨Hth, Ha, Hb, Hs, HO⟩
  iapply Hk
  isplitl [Hth Htr]
  · iapply (pointsTo_split_subset (ℓ := (tV).view.loc (thr d c s)) (q := qt) (f := T) hsub).2
    isplitl [Hth]; · iexact Hth
    iexact Htr
  isplitl [Ha]; · iexact Ha
  isplitl [Hb]; · iexact Hb
  isplitl [Hs]; · iexact Hs
  iexists _
  isplitr
  swap; · iexact HO
  ipureintro
  exact OW_insert W _ W' hW'

/-- The row window's slot after the first gather: its left half in place. -/
abbrev BLeft (t : Fin 32) (p : Fin 2) : sProp 𝕄 :=
  iprop(∃ f, ⌜∀ x, (x 1).val < 128 → (bS p).view.read (Elt F) f x = blk d c s t (G d c s T I) x⌝ ∗ bPts d c s p f)

set_option maxHeartbeats 2000000 in
theorem wp_part2 (Ψ : α → sProp 𝕄) {k : PUnit → Prog (TpuEff nD τ sig (Elt F) Λ₀ (thr d c s).2) α} (hI : InRows I) (t : Fin 32)
    (h3) (h2) (h1) (v5 : BitVec 32) (v64 : BitVec 1) (v66 v71 : BitVec 32) (v96 : BitVec 1) :
    iprop(ALd d c s qi I t (par t.val) ∗ (∃ f, bPts d c s (par t.val) f) ∗ tAll d c s qt T ∗ semVal (thr d c s, .dma cc0_scoped4.sem) 0
        ∗ OW d c s O W ∗ Transfers.MayWaits (thr d c s) (default : HIx 1) O)
      ⊢ iprop((iprop(aHas d c s t (par t.val) I ∗ semVal (thr d c s, .dma (s5 (par t.val))) 0 ∗ iAll d c s qi I (par t.val)
            ∗ BLeft d c s T I t (par t.val) ∗ tAll d c s qt T ∗ semVal (thr d c s, .dma cc0_scoped4.sem) 0 ∗ OW d c s O W) -∗ W1 d c s (k ⟨⟩) Ψ)
        -∗ W1 d c s (k0_part2 (crd c s) tV (Memref.isWhole_whole _) iV (Memref.isWhole_whole _) oV (Memref.isWhole_whole _) aV (Memref.isWhole_whole _)
            cc0_scoped1 bV (Memref.isWhole_whole _) cc0_scoped3 cc0_scoped4 cc0_scoped5 (tr t) (w6 t.val) (w7 t.val) (w7 t.val) (w9 t.val) (w10 t.val)
            h3 h2 h1 v5 v64 v66 v71 v96 >>= k) Ψ) := by
  simp only [k0_part2_eq_skeleton]; unfold k0_part2_skel
  have hc : k0_cond2 (crd c s) (tr t) (w10 t.val) = 1#1 := cond2_c c s t
  simp only [Prog.lift, Prog.bind_op, Prog.bind_ret, Prog.pure_eq_ret, Prog.bind_assoc, ite_self]
  rw [dif_pos hc]
  simp only [Prog.bind_op, Prog.bind_ret, Prog.bind_assoc]
  iintro ⟨⟨Hf, Hir⟩, ⟨%f, Hb⟩, Ht, Hs4, ⟨%W', %hW', HO⟩, #Hmw⟩ Hk
  iapply (wp_fetched d c s Ψ t (par t.val) (qi (par t.val)) I _ _ _ _ (off7_c t) _ _ (off9_c t)) $$ [Hf HO]
  · isplitl [Hf]; · iexact Hf
    isplitl [HO]; · iexact HO
    iexact Hmw
  iintro ⟨Ha, Hib, Hs5, HO⟩
  iapply (wp_halfT d c s qt T I O W Ψ t (par t.val) 0 inb_S128x256_S128x128_0_0 inb_S195584x256_S195584x128_0_0
    (dmaCredit_half0 _ _ _) hI f cc0_scoped4.sem _ _ (off10_c t) _ _ (off11_c t)) $$ [Ht Ha Hb Hs4 HO]
  · isplitl [Ht]; · iexact Ht
    isplitl [Ha]; · iexact Ha
    isplitl [Hb]; · iexact Hb
    isplitl [Hs4]; · iexact Hs4
    isplitl [HO]
    · iexists _
      isplitr
      swap; · iexact HO
      ipureintro
      exact OW_insert W _ W' hW'
    iexact Hmw
  iintro ⟨Ht, Ha, ⟨%f', %hf', Hb⟩, Hs4, HO⟩
  iapply Hk
  isplitl [Ha]; · iexact Ha
  isplitl [Hs5]; · iexact Hs5
  isplitl [Hib Hir]
  · iapply (pointsTo_split_subset (ℓ := (iV).view.loc (thr d c s)) (q := qi (par t.val)) (f := I) (Finset.subset_univ (iB c s t).view.set)).2
    isplitl [Hib]; · iexact Hib
    iexact Hir
  isplitl [Hb]
  · iexists f'
    isplitr
    swap; · iexact Hb
    ipureintro
    intro x hx
    rw [hf' x, if_pos ⟨Nat.zero_le _, by omega⟩]
  isplitl [Ht]; · iexact Ht
  isplitl [Hs4]; · iexact Hs4
  iexact HO

set_option maxHeartbeats 2000000 in
theorem wp_part3 (Ψ : α → sProp 𝕄) (hI : InRows I) (t : Fin 32)
    {k : _ → Prog (TpuEff nD τ sig (Elt F) Λ₀ (thr d c s).2) α}
    (h3) (h2) (h1) (v64 v65 : BitVec 1) (v66 v71 v76 : BitVec 32) :
    iprop(aHas d c s t (par t.val) I ∗ BLeft d c s T I t (par t.val) ∗ semVal (thr d c s, .dma (s6 (par t.val))) 0 ∗ oPts d c s t o0
        ∗ tAll d c s qt T ∗ semVal (thr d c s, .dma cc0_scoped5.sem) 0 ∗ OW d c s O W ∗ Transfers.MayWaits (thr d c s) (default : HIx 1) O)
      ⊢ iprop((iprop((∃ f, aPts d c s (par t.val) f) ∗ bFly d c s t (par t.val) (G d c s T I) ∗ tAll d c s qt T
            ∗ semVal (thr d c s, .dma cc0_scoped5.sem) 0 ∗ OW d c s O W) -∗ W1 d c s (k
              (let v124 := Scalar.andi (Scalar.cmpi .ne v66 v71) (Scalar.xori v64 1#1)
               ⟨Scalar.select (Scalar.andi (Scalar.ori (Scalar.cmpi .ne v66 v76) v65) 1#1) (Scalar.addi (w7 t.val) 1#32) (w7 t.val),
                v124, Scalar.extui v124, 0#32⟩)) Ψ)
        -∗ W1 d c s (k0_part3 (crd c s) tV (Memref.isWhole_whole _) iV (Memref.isWhole_whole _) oV (Memref.isWhole_whole _) aV (Memref.isWhole_whole _)
            cc0_scoped1 bV (Memref.isWhole_whole _) cc0_scoped3 cc0_scoped4 cc0_scoped5 (tr t) (w6 t.val) (w7 t.val) (w7 t.val) (w9 t.val) (w10 t.val)
            h3 h2 h1 v64 v65 v66 v71 v76 >>= k) Ψ) := by
  simp only [k0_part3_eq_skeleton]; unfold k0_part3_skel
  have hc : k0_cond5 (crd c s) (tr t) (w10 t.val) = 1#1 := cond5_c c s t
  simp only [Prog.lift, Prog.bind_op, Prog.bind_ret, Prog.pure_eq_ret, Prog.bind_assoc, ite_self]
  simp only [dif_pos hc, Prog.bind_op, Prog.bind_ret, Prog.bind_assoc]
  iintro ⟨Ha, ⟨%f, %hf, Hb⟩, Hs6, Ho, Ht, Hs5, HO, #Hmw⟩ Hk
  iapply (wp_halfT d c s qt T I O W Ψ t (par t.val) 128 inb_S128x256_S128x128_0_128 inb_S195584x256_S195584x128_0_128
    (dmaCredit_half1 _ _ _) hI f cc0_scoped5.sem _ _ (off10_c t) _ _ (off11_c t)) $$ [Ht Ha Hb Hs5 HO]
  · isplitl [Ht]; · iexact Ht
    isplitl [Ha]; · iexact Ha
    isplitl [Hb]; · iexact Hb
    isplitl [Hs5]; · iexact Hs5
    isplitl [HO]; · iexact HO
    iexact Hmw
  iintro ⟨Ht, ⟨%fa, -, Ha⟩, ⟨%f', %hf', Hb⟩, Hs5, HO⟩
  have hG : ∀ x, (bS (par t.val)).view.read (Elt F) f' x = (oB c s t).view.read (Elt F) (G d c s T I) x := by
    intro x
    rw [hf' x]
    split
    · rfl
    · rename_i hx
      refine hf x ?_
      have : (x 1).val < 256 := (x 1).isLt
      omega
  iapply (wp_out d c s Ψ t (par t.val) f' o0 (G d c s T I) hG _ _ (off13_c c s t) _ _ (off12_c t) _ _ (off14_c t)) $$ [Hb Ho Hs6]
  · isplitl [Hb]; · iexact Hb
    isplitl [Ho]; · iexact Ho
    iexact Hs6
  iintro Hf
  iapply Hk
  isplitl [Ha]; · iexists fa; iexact Ha
  isplitl [Hf]; · iexact Hf
  isplitl [Ht]; · iexact Ht
  isplitl [Hs5]; · iexact Hs5
  iexact HO

end Cert.Proof

end
-- ==== Proof.Tile.lean ====
/-
  A tile's whole task: the first fetch, the 32 trips of the loop, the last copy's wait.
-/
module

public import proofs.«01_k».proof.Proof.Trip

@[expose] public section

noncomputable section

namespace Cert.Proof

open Cert.KernelIdeal Cert.KernelIdeal.Gen

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The carried words before trip `n`. -/
def words (n : ℕ) : BitVec 32 × BitVec 32 × BitVec 32 × BitVec 32 × BitVec 32 := (w6 n, w7 n, w7 n, w9 n, w10 n)

/-- A trip's yielded words are the next trip's. -/
theorem words_step : ∀ (c : Fin 2) (s : Fin 16) (t : Fin 32),
    (let v4 := v4w c s
     let arg10 := w10 t.val
     let arg5 := Scf.iv 0#32 1#32 (tr t)
     let v64 := Scalar.cmpi .eq arg5 0#32
     let v65 := Scalar.cmpi .eq arg5 31#32
     let v66 := Scalar.addi arg10 v4
     let v68 := Scalar.select 1#1 (Scalar.subi arg10 1#32) arg10
     let v71 := Scalar.addi (Scalar.select (Scalar.cmpi .eq v68 4294967295#32) 31#32 v68) v4
     let v73 := Scalar.select 1#1 (Scalar.addi arg10 1#32) arg10
     let v76 := Scalar.addi (Scalar.select (Scalar.cmpi .eq v73 32#32) 0#32 v73) v4
     let v85 := Scalar.andi (Scalar.cmpi .ne v66 v76) (Scalar.xori (Scalar.cmpi .sge arg5 31#32) 1#1)
     let v91 := Scalar.select (Scalar.andi v85 1#1) (Scalar.addi (w6 t.val) 1#32) (w6 t.val)
     let v121 := Scalar.select (Scalar.andi (Scalar.ori (Scalar.cmpi .ne v66 v76) v65) 1#1) (Scalar.addi (w7 t.val) 1#32) (w7 t.val)
     let v130 := Scalar.andi (Scalar.cmpi .ne v66 v71) (Scalar.xori v64 1#1)
     let v135 := Scalar.select (Scalar.andi v130 1#1) (Scalar.addi (w9 t.val) 1#32) (w9 t.val)
     let v139 := Scalar.select (Scalar.ori (Scalar.cmpi .ne v66 v76) v65) (Scalar.addi (w7 t.val) 1#32) (w7 t.val)
     let v141 := Scalar.select 1#1 (Scalar.addi arg10 1#32) arg10
     let v143 := Scalar.select (Scalar.cmpi .eq v141 32#32) 0#32 v141
     (v91, v139, v121, v135, v143)) = words (t.val + 1) := by
  decide +kernel

variable (d : Dev nD) (c : Fin 2) (s : Fin 16)
  (qi : Fin 2 → PosShare TreeShare) (qt : PosShare TreeShare)
  (T : Buf (Elt F) ((tV).view.loc (thr d c s))) (I : Buf (Elt F) ((iV).view.loc (thr d c s)))
  (o0 : Buf (Elt F) ((oV).view.loc (thr d c s)))
  (O : CellTallies nD τ sig (HIx 1)) (W : Waits sig (HIx 1))

/-! ## The result's blocks between trips -/

/-- Block `t` before trip `n`: written, with its copy under way, or as it was. -/
def outAt (n : ℕ) (t : Fin 32) : sProp 𝕄 :=
  if t.val + 1 = n then iprop(emp) else if t.val < n then oPts d c s t (G d c s T I) else oPts d c s t o0

def outs (n : ℕ) : sProp 𝕄 := bigSep Finset.univ (outAt d c s T I o0 n)

theorem outs_take (t : Fin 32) :
    outs d c s T I o0 t.val = iprop(oPts d c s t o0 ∗ bigSep (Finset.univ.erase t) (outAt d c s T I o0 t.val)) := by
  unfold outs
  rw [SparseCore.bigSep_erase' (Finset.mem_univ t)]
  congr 1
  unfold outAt
  rw [if_neg (by omega), if_neg (by omega)]

theorem outs_next (t : Fin 32) (hpos : 0 < t.val) :
    outs d c s T I o0 (t.val + 1)
      = iprop(emp ∗ oPts d c s (f32 (t.val - 1)) (G d c s T I) ∗ bigSep ((Finset.univ.erase t).erase (f32 (t.val - 1))) (outAt d c s T I o0 t.val)) := by
  have e : (f32 (t.val - 1)).val = t.val - 1 := Nat.mod_eq_of_lt (by omega)
  have hm : f32 (t.val - 1) ∈ Finset.univ.erase t :=
    Finset.mem_erase.mpr ⟨fun h => by have := congrArg Fin.val h; rw [e] at this; omega, Finset.mem_univ _⟩
  unfold outs
  rw [SparseCore.bigSep_erase' (Finset.mem_univ t), SparseCore.bigSep_erase' hm]
  congr 1
  · unfold outAt; rw [if_pos rfl]
  · congr 1
    · unfold outAt; rw [e, if_neg (by omega), if_pos (by omega)]
    · refine bigSep_congr fun i hi => ?_
      have h1 : i ≠ f32 (t.val - 1) := (Finset.mem_erase.mp hi).1
      have h2 : i ≠ t := (Finset.mem_erase.mp (Finset.mem_erase.mp hi).2).1
      have h1' : i.val ≠ t.val - 1 := fun h => h1 (Fin.ext (h.trans e.symm))
      have h2' : i.val ≠ t.val := fun h => h2 (Fin.ext h)
      unfold outAt
      rw [if_neg (show ¬ i.val + 1 = t.val + 1 by omega), if_neg (show ¬ i.val + 1 = t.val by omega)]
      by_cases hl : i.val < t.val
      · rw [if_pos (show i.val < t.val + 1 by omega), if_pos hl]
      · rw [if_neg (show ¬ i.val < t.val + 1 by omega), if_neg hl]

theorem outs_rest (t : Fin 32) (hpos : 0 < t.val) :
    bigSep (Finset.univ.erase t) (outAt d c s T I o0 t.val)
      = iprop(emp ∗ bigSep ((Finset.univ.erase t).erase (f32 (t.val - 1))) (outAt d c s T I o0 t.val)) := by
  have e : (f32 (t.val - 1)).val = t.val - 1 := Nat.mod_eq_of_lt (by omega)
  have hm : f32 (t.val - 1) ∈ Finset.univ.erase t :=
    Finset.mem_erase.mpr ⟨fun h => by have := congrArg Fin.val h; rw [e] at this; omega, Finset.mem_univ _⟩
  rw [SparseCore.bigSep_erase' hm]
  congr 1
  unfold outAt; rw [e, if_pos (by omega)]

theorem outs_first (t : Fin 32) (h0 : t.val = 0) :
    outs d c s T I o0 (t.val + 1) = iprop(emp ∗ bigSep (Finset.univ.erase t) (outAt d c s T I o0 t.val)) := by
  unfold outs
  rw [SparseCore.bigSep_erase' (Finset.mem_univ t)]
  congr 1
  · unfold outAt; rw [if_pos rfl]
  · refine bigSep_congr fun i hi => ?_
    have h2' : i.val ≠ t.val := fun h => (Finset.mem_erase.mp hi).1 (Fin.ext h)
    unfold outAt
    rw [if_neg (show ¬ i.val + 1 = t.val + 1 by omega), if_neg (show ¬ i.val + 1 = t.val by omega),
      if_neg (show ¬ i.val < t.val + 1 by omega), if_neg (show ¬ i.val < t.val by omega)]

/-! ## The trip -/

/-- What the tile holds before trip `n`. -/
def St (n : ℕ) : sProp 𝕄 :=
  iprop(ANow d c s qi I n ∗ AFree d c s qi I (par (n + 1)) ∗ BPrev d c s T I n ∗ BFree d c s (par n)
    ∗ tAll d c s qt T ∗ semVal (thr d c s, .dma cc0_scoped4.sem) 0 ∗ semVal (thr d c s, .dma cc0_scoped5.sem) 0
    ∗ outs d c s T I o0 n ∗ OW d c s O W ∗ Transfers.MayWaits (thr d c s) (default : HIx 1) O)

def Inv (n : ℕ) (acc : BitVec 32 × BitVec 32 × BitVec 32 × BitVec 32 × BitVec 32) : sProp 𝕄 :=
  iprop(⌜acc = words n⌝ ∗ St d c s qi qt T I o0 O W n)

abbrev body (c : Fin 2) (s : Fin 16) := k0_t1_body (F := F) (crd c s) tV (Memref.isWhole_whole _) iV (Memref.isWhole_whole _) oV (Memref.isWhole_whole _) aV (Memref.isWhole_whole _)
  cc0_scoped1 bV (Memref.isWhole_whole _) cc0_scoped3 cc0_scoped4 cc0_scoped5 (v4w c s)

set_option maxHeartbeats 4000000 in
theorem trip (hI : InRows I) (t : Fin 32) :
    St d c s qi qt T I o0 O W t.val ⊢ W1 d c s (body c s (tr t) (words t.val)) (Inv d c s qi qt T I o0 O W (t.val + 1)) := by
  unfold St body k0_t1_body words
  simp only [Prog.bind_op, Prog.bind_ret, Prog.pure_eq_ret, Prog.bind_assoc, ite_self, Prog.lift]
  iintro ⟨HA, HA', HB, HB', Ht, Hs4, Hs5, Ho, HO, #Hmw⟩
  iapply (wp_part1 d c s qi I _ t (v4w c s)) $$ HA'
  iintro HA'
  ihave HA := (Entails.of_eq (show ANow d c s qi I t.val = ALd d c s qi I t (par t.val) by
    unfold ANow; rw [if_pos t.isLt, f32_val])) $$ HA
  icases HB' with ⟨Hb, Hs6⟩
  iapply (wp_part2 d c s qi qt T I O W _ hI t) $$ [HA Hb Ht Hs4 HO]
  · isplitl [HA]; · iexact HA
    isplitl [Hb]; · iexact Hb
    isplitl [Ht]; · iexact Ht
    isplitl [Hs4]; · iexact Hs4
    isplitl [HO]; · iexact HO
    iexact Hmw
  iintro ⟨Ha, Hsa, Hi, Hb, Ht, Hs4, HO⟩
  ihave Ho := (Entails.of_eq (outs_take d c s T I o0 t)) $$ Ho
  icases Ho with ⟨Hot, Hor⟩
  iapply (wp_part3 d c s qt T I o0 O W _ hI t) $$ [Ha Hb Hs6 Hot Ht Hs5 HO]
  · isplitl [Ha]; · iexact Ha
    isplitl [Hb]; · iexact Hb
    isplitl [Hs6]; · iexact Hs6
    isplitl [Hot]; · iexact Hot
    isplitl [Ht]; · iexact Ht
    isplitl [Hs5]; · iexact Hs5
    isplitl [HO]; · iexact HO
    iexact Hmw
  iintro ⟨Ha, Hf, Ht, Hs5, HO⟩
  have hw := words_step c s t
  by_cases h : 0 < t.val
  · have hc : k0_cond7 (crd c s) (tr t) (w10 t.val) = 1#1 := by rw [cond7_c]; exact h
    simp only [dif_pos hc, Prog.bind_op, Prog.bind_ret, Prog.bind_assoc]
    icases HO with ⟨%W', %hW', HO⟩
    have e32 : (f32 (t.val - 1)).val = t.val - 1 := Nat.mod_eq_of_lt (by omega)
    have et : t.val - 1 + 1 = t.val := by omega
    have h16 : k0_off16 (crd c s) (w10 t.val) = ![128 * (base c s + (f32 (t.val - 1)).val), 0] := by
      rw [e32]; have := off16_c c s ⟨t.val - 1, by omega⟩; rw [et] at this; exact this
    have h17 : k0_off17 (w9 t.val) = ![(par (t.val + 1)).val] := by
      have := off17_c ⟨t.val - 1, by omega⟩; rw [et] at this; rw [this, par_pred h]
    ihave HB := (Entails.of_eq (show BPrev d c s T I t.val = bFly d c s (f32 (t.val - 1)) (par (t.val + 1)) (G d c s T I) by
      unfold BPrev; rw [if_pos h])) $$ HB
    iapply (wp_outed d c s _ (f32 (t.val - 1)) (par (t.val + 1)) (G d c s T I) _ _ h16 _ _ _ _ h17) $$ [HB HO]
    · isplitl [HB]; · iexact HB
      isplitl [HO]; · iexact HO
      iexact Hmw
    iintro ⟨Hop, Hbp, Hsp, HO⟩
    unfold W1
    rw [wp_ret]
    imodintro
    unfold Inv St
    isplitr; · ipureintro; exact hw
    isplitl [HA']; · iexact HA'
    isplitl [Ha Hsa Hi]
    · rw [par_add_two]
      isplitl [Ha]; · iexact Ha
      isplitl [Hsa]; · iexact Hsa
      iexact Hi
    isplitl [Hf]
    · unfold BPrev
      rw [if_pos (Nat.succ_pos _), par_add_two, Nat.add_sub_cancel, f32_val]
      iexact Hf
    isplitl [Hbp Hsp]
    · isplitl [Hbp]; · iexact Hbp
      iexact Hsp
    isplitl [Ht]; · iexact Ht
    isplitl [Hs4]; · iexact Hs4
    isplitl [Hs5]; · iexact Hs5
    isplitl [Hop Hor]
    · ihave Hor := (Entails.of_eq (outs_rest d c s T I o0 t h)) $$ Hor
      icases Hor with ⟨-, Hor⟩
      iapply (Entails.of_eq (outs_next d c s T I o0 t h).symm)
      isplitr; · iempintro
      isplitl [Hop]; · iexact Hop
      iexact Hor
    isplitl [HO]
    · iexists _
      isplitr
      swap; · iexact HO
      ipureintro
      exact OW_insert W _ W' hW'
    iexact Hmw
  · have h0 : t.val = 0 := by omega
    have hc : ¬ k0_cond7 (crd c s) (tr t) (w10 t.val) = 1#1 := by rw [cond7_c]; exact h
    simp only [dif_neg hc, Prog.bind_op, Prog.bind_ret, Prog.bind_assoc]
    ihave HB := (Entails.of_eq (show BPrev d c s T I t.val = BFree d c s (par (t.val + 1)) by
      unfold BPrev; rw [if_neg h])) $$ HB
    unfold W1
    rw [wp_ret]
    imodintro
    unfold Inv St
    isplitr; · ipureintro; exact hw
    isplitl [HA']; · iexact HA'
    isplitl [Ha Hsa Hi]
    · rw [par_add_two]
      isplitl [Ha]; · iexact Ha
      isplitl [Hsa]; · iexact Hsa
      iexact Hi
    isplitl [Hf]
    · unfold BPrev
      rw [if_pos (Nat.succ_pos _), par_add_two, Nat.add_sub_cancel, f32_val]
      iexact Hf
    isplitl [HB]; · iexact HB
    isplitl [Ht]; · iexact Ht
    isplitl [Hs4]; · iexact Hs4
    isplitl [Hs5]; · iexact Hs5
    isplitl [Hor]
    · iapply (Entails.of_eq (outs_first d c s T I o0 t h0).symm)
      isplitr; · iempintro
      iexact Hor
    isplitl [HO]; · iexact HO
    iexact Hmw

/-! ## The task -/

theorem inv_step (hI : InRows I) (k : Fin k0_t1_loop.trips) (acc : BitVec 32 × BitVec 32 × BitVec 32 × BitVec 32 × BitVec 32) :
    Inv d c s qi qt T I o0 O W k.val acc ⊢ W1 d c s (body c s k acc) (Inv d c s qi qt T I o0 O W (k.val + 1)) := by
  have h : St d c s qi qt T I o0 O W k.val ⊢ W1 d c s (body c s k (words k.val)) (Inv d c s qi qt T I o0 O W (k.val + 1)) :=
    trip d c s qi qt T I o0 O W hI (k.cast trips_eq)
  conv_lhs => unfold Inv
  iintro ⟨%e, H⟩
  subst e
  iapply h $$ H

theorem words_zero : (Scalar.addi 0#32 1#32, 0#32, 0#32, 0#32, 0#32) = words 0 := by decide

/-- The result's 32 blocks of the tile, all at contents `f`. -/
abbrev oAll (f : Buf (Elt F) ((oV).view.loc (thr d c s))) : sProp 𝕄 := bigSep Finset.univ fun t : Fin 32 => oPts d c s t f

theorem outs_zero : oAll d c s o0 = outs d c s T I o0 0 := by
  unfold outs oAll
  refine bigSep_congr fun t _ => ?_
  unfold outAt
  rw [if_neg (by omega), if_neg (by omega)]

theorem outs_last : iprop(outs d c s T I o0 32 ∗ oPts d c s 31 (G d c s T I)) ⊢ oAll d c s (G d c s T I) := by
  unfold outs oAll
  rw [SparseCore.bigSep_erase' (Finset.mem_univ (31 : Fin 32)),
    SparseCore.bigSep_erase' (Finset.mem_univ (31 : Fin 32)) (Φ := fun t => oPts d c s t (G d c s T I))]
  have e : bigSep (Finset.univ.erase (31 : Fin 32)) (outAt d c s T I o0 32)
      = bigSep (Finset.univ.erase (31 : Fin 32)) (fun t => oPts d c s t (G d c s T I)) :=
    bigSep_congr fun i hi => by
      have h2' : i.val ≠ 31 := fun h => (Finset.mem_erase.mp hi).1 (Fin.ext h)
      unfold outAt
      rw [if_neg (show ¬ i.val + 1 = 32 by omega), if_pos i.isLt]
  rw [e]
  iintro ⟨⟨-, H⟩, Ho⟩
  isplitl [Ho]; · iexact Ho
  iexact H

set_option maxHeartbeats 4000000 in
/-- From idle slots, shares of the list and the table and the tile's blocks of the result, the task leaves the gathered
    rows in the blocks and everything else as it was. -/
theorem task (hI : InRows I) :
    iprop(AFree d c s qi I 0 ∗ AFree d c s qi I 1 ∗ BFree d c s 0 ∗ BFree d c s 1
        ∗ tAll d c s qt T ∗ semVal (thr d c s, .dma cc0_scoped4.sem) 0 ∗ semVal (thr d c s, .dma cc0_scoped5.sem) 0
        ∗ oAll d c s o0 ∗ OW d c s O W ∗ Transfers.MayWaits (thr d c s) (default : HIx 1) O)
      ⊢ W1 d c s (cc0_gather (F := F) (crd c s) tV (Memref.isWhole_whole _) iV (Memref.isWhole_whole _) oV (Memref.isWhole_whole _)
          aV (Memref.isWhole_whole _) cc0_scoped1 bV (Memref.isWhole_whole _) cc0_scoped3 cc0_scoped4 cc0_scoped5)
        fun _ => iprop(AFree d c s qi I 0 ∗ AFree d c s qi I 1 ∗ BFree d c s 0 ∗ BFree d c s 1
          ∗ tAll d c s qt T ∗ semVal (thr d c s, .dma cc0_scoped4.sem) 0 ∗ semVal (thr d c s, .dma cc0_scoped5.sem) 0
          ∗ oAll d c s (G d c s T I) ∗ OW d c s O W) := by
  simp only [cc0_gather_eq_skeleton]; unfold cc0_gather_skel
  simp only [k0_part4_eq_skeleton, k0_part5_eq_skeleton]; unfold k0_part4_skel k0_part5_skel
  simp only [Prog.lift, Prog.bind_op, Prog.bind_ret, Prog.pure_eq_ret, Prog.bind_assoc]
  iintro ⟨⟨Ha, Hs, Hi⟩, HA1, HB0, HB1, Ht, Hs4, Hs5, Ho, HO, #Hmw⟩
  have hsub : (iB c s 0).view.set ⊆ Finset.univ := Finset.subset_univ _
  ihave Hi2 := (pointsTo_split_subset (ℓ := (iV).view.loc (thr d c s)) (q := qi 0) (f := I) hsub).1 $$ Hi
  icases Hi2 with ⟨Hib, Hir⟩
  iapply (wp_fetch d c s _ 0 0 (qi 0) I _ _ (off2_c c s) _ _ (by decide) _ _ (by decide)) $$ [Ha Hs Hib]
  · isplitl [Hib]; · iexact Hib
    isplitl [Ha]; · iexact Ha
    iexact Hs
  iintro Hf
  iapply (Scf.wp_for_bind frame (wpE (defs₀ (F := F)) 𝒱₀ (thr d c s) none) Set.univ k0_t1_loop.lb k0_t1_loop.ub k0_t1_loop.st k0_t1_ok
    (Scalar.addi 0#32 1#32, 0#32, 0#32, 0#32, 0#32) (body c s) (Inv d c s qi qt T I o0 O W) (inv_step d c s qi qt T I o0 O W hI)) $$ [Hf Hir HA1 HB0 HB1 Ht Hs4 Hs5 Ho HO]
  · unfold Inv St
    isplitr; · ipureintro; exact words_zero
    isplitl [Hf Hir]
    · unfold ANow
      rw [if_pos (by decide)]
      isplitl [Hf]; · iexact Hf
      iexact Hir
    isplitl [HA1]; · iexact HA1
    isplitl [HB1]
    · unfold BPrev
      rw [if_neg (by decide)]
      iexact HB1
    isplitl [HB0]; · iexact HB0
    isplitl [Ht]; · iexact Ht
    isplitl [Hs4]; · iexact Hs4
    isplitl [Hs5]; · iexact Hs5
    isplitl [Ho]
    · iapply (Entails.of_eq (outs_zero d c s T I o0)) $$ Ho
    isplitl [HO]; · iexact HO
    iexact Hmw
  iintro %acc H
  ihave H := (Entails.of_eq (show Inv d c s qi qt T I o0 O W (Scf.trips k0_t1_loop.lb k0_t1_loop.ub k0_t1_loop.st) acc = iprop(⌜acc = words 32⌝ ∗ St d c s qi qt T I o0 O W 32) from
    congrArg (fun n => Inv d c s qi qt T I o0 O W n acc) trips_eq)) $$ H
  icases H with ⟨%e, H⟩
  subst e
  unfold words St
  simp only [Prog.bind_op, Prog.bind_ret]
  icases H with ⟨HA0, HA1, HB, HB0, Ht, Hs4, Hs5, Ho, ⟨%W', %hW', HO⟩, -⟩
  ihave HB := (Entails.of_eq (show BPrev d c s T I 32 = bFly d c s 31 1 (G d c s T I) by
    unfold BPrev; rw [if_pos (by decide)]; rfl)) $$ HB
  ihave HA0 := (Entails.of_eq (show ANow d c s qi I 32 = AFree d c s qi I 0 by
    unfold ANow; rw [if_neg (by decide)]; rfl)) $$ HA0
  rw [wp_assume_of _ _ _ _ (chk5_c c s), wp_assume_of _ _ _ _ chk4_c]
  simp only [Prog.bind_op, Prog.bind_ret]
  iapply (wp_outed d c s _ 31 1 (G d c s T I) _ _ (off19_c c s) _ _ _ _ off20_c) $$ [HB HO]
  · isplitl [HB]; · iexact HB
    isplitl [HO]; · iexact HO
    iexact Hmw
  iintro ⟨Hop, Hb1, Hsp, HO⟩
  unfold W1
  rw [wp_ret]
  imodintro
  isplitl [HA0]; · iexact HA0
  isplitl [HA1]; · iexact HA1
  isplitl [HB0]; · iexact HB0
  isplitl [Hb1 Hsp]
  · isplitl [Hb1]; · iexact Hb1
    iexact Hsp
  isplitl [Ht]; · iexact Ht
  isplitl [Hs4]; · iexact Hs4
  isplitl [Hs5]; · iexact Hs5
  isplitl [Ho Hop]
  · iapply (outs_last d c s T I o0)
    isplitl [Ho]; · iexact Ho
    iexact Hop
  iexists _
  isplitr
  swap; · iexact HO
  ipureintro
  exact OW_insert W _ W' hW'

end Cert.Proof

end
-- ==== Proof.Split.lean ====
/-
  The operands cut and put together again: the two windows into their slots, a tile's transfer counters out of all it
  owns, the result into its 1024 blocks (two cores, 16 tiles each, 32 blocks a tile), the table and the list into shares.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-! ## The windows' slots -/

theorem adiv : 2 ∣ S2x1x128.size 0 := ⟨1, rfl⟩
theorem bdiv : 2 ∣ S2x128x256.size 0 := ⟨1, rfl⟩
theorem odiv : 1024 ∣ S131072x256.size 0 := ⟨128, rfl⟩

theorem aRect_eq (p : Fin 2) : Rect.unit (s := S2x1x128) ![p.val, 0, 0] S1x1x128.size (inb_aS p) = Rect.part adiv p := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem bRect_eq (p : Fin 2) : Rect.unit (s := S2x128x256) ![p.val, 0, 0] S1x128x256.size (inb_bS p) = Rect.part bdiv p := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem aS_set (p : Fin 2) : (aS p).view.set = (Rect.part adiv p).set := by
  show (((aV).view.slice (Rect.unit (s := S2x1x128) ![p.val, 0, 0] S1x1x128.size (inb_aS p))).reshape S1x128 squeezes_S1x1x128_S1x128.numel_eq).set = _
  rw [View.set_reshape]
  exact (View.set_slice _ _).trans (Finset.map_refl.trans (congrArg (fun r : Rect S2x1x128 => r.set) (aRect_eq p)))

theorem bS_set (p : Fin 2) : (bS p).view.set = (Rect.part bdiv p).set := by
  show (((bV).view.slice (Rect.unit (s := S2x128x256) ![p.val, 0, 0] S1x128x256.size (inb_bS p))).reshape S128x256 squeezes_S1x128x256_S128x256.numel_eq).set = _
  rw [View.set_reshape]
  exact (View.set_slice _ _).trans (Finset.map_refl.trans (congrArg (fun r : Rect S2x128x256 => r.set) (bRect_eq p)))

abbrev aSet (p : Fin 2) : Finset S2x1x128.Idx := (aS p).view.set
theorem aS_disj : ∀ p ∈ (Finset.univ : Finset (Fin 2)), ∀ p' ∈ (Finset.univ : Finset (Fin 2)), p ≠ p' → Disjoint (aS p).view.set (aS p').view.set :=
  fun p _ p' _ h => by rw [aS_set, aS_set]; exact Rect.part_disjoint adiv h
abbrev bSet (p : Fin 2) : Finset S2x128x256.Idx := (bS p).view.set
theorem bS_disj : ∀ p ∈ (Finset.univ : Finset (Fin 2)), ∀ p' ∈ (Finset.univ : Finset (Fin 2)), p ≠ p' → Disjoint (bS p).view.set (bS p').view.set :=
  fun p _ p' _ h => by rw [bS_set, bS_set]; exact Rect.part_disjoint bdiv h
theorem aS_cover : (Finset.univ : Finset (Fin 2)).biUnion aSet = Finset.univ :=
  (Finset.biUnion_congr rfl fun i _ => aS_set i).trans (Rect.biUnion_part adiv)
theorem bS_cover : (Finset.univ : Finset (Fin 2)).biUnion bSet = Finset.univ :=
  (Finset.biUnion_congr rfl fun i _ => bS_set i).trans (Rect.biUnion_part bdiv)

theorem two (Φ : Fin 2 → sProp 𝕄) : bigSep Finset.univ Φ = iprop(Φ 0 ∗ Φ 1) := bigSep_fin_two Φ

variable (d : Dev nD) (c : Fin 2) (s : Fin 16)

theorem a_split (f : Buf (Elt F) ((thr d c s).loc cc0_scoped0)) :
    ((thr d c s).loc cc0_scoped0 ↦{fullShare} f : sProp 𝕄) = iprop(aPts d c s 0 f ∗ aPts d c s 1 f) := by
  refine Eq.trans ?_ (two (fun p => aPts d c s p f))
  rw [← pointsTo_biUnion Finset.univ (ℓ := (thr d c s).loc cc0_scoped0) aSet aS_disj, aS_cover]
theorem b_split (f : Buf (Elt F) ((thr d c s).loc cc0_scoped2)) :
    ((thr d c s).loc cc0_scoped2 ↦{fullShare} f : sProp 𝕄) = iprop(bPts d c s 0 f ∗ bPts d c s 1 f) := by
  refine Eq.trans ?_ (two (fun p => bPts d c s p f))
  rw [← pointsTo_biUnion Finset.univ (ℓ := (thr d c s).loc cc0_scoped2) bSet bS_disj, bS_cover]

theorem a_join : iprop((∃ f, aPts d c s 0 f) ∗ ∃ f, aPts d c s 1 f) ⊢ (iprop(∃ f, (thr d c s).loc cc0_scoped0 ↦{fullShare} f) : sProp 𝕄) := by
  iintro ⟨⟨%f, Hf⟩, ⟨%g, Hg⟩⟩
  ihave H := (pointsTo_biUnion_join (ℓ := (thr d c s).loc cc0_scoped0) (q := fullShare) (Val := Elt F) Finset.univ aSet (fun p => if p = 0 then f else g) f aS_disj) $$ [Hf Hg]
  · iapply (Entails.of_eq (two _).symm)
    isplitl [Hf]; · iexact Hf
    iexact Hg
  icases H with ⟨%k, -, Hk⟩
  rw [aS_cover]
  iexists k; iexact Hk
theorem b_join : iprop((∃ f, bPts d c s 0 f) ∗ ∃ f, bPts d c s 1 f) ⊢ (iprop(∃ f, (thr d c s).loc cc0_scoped2 ↦{fullShare} f) : sProp 𝕄) := by
  iintro ⟨⟨%f, Hf⟩, ⟨%g, Hg⟩⟩
  ihave H := (pointsTo_biUnion_join (ℓ := (thr d c s).loc cc0_scoped2) (q := fullShare) (Val := Elt F) Finset.univ bSet (fun p => if p = 0 then f else g) f bS_disj) $$ [Hf Hg]
  · iapply (Entails.of_eq (two _).symm)
    isplitl [Hf]; · iexact Hf
    iexact Hg
  icases H with ⟨%k, -, Hk⟩
  rw [bS_cover]
  iexists k; iexact Hk

/-! ## What a tile owns -/

abbrev cellOf (q : DmaSem sig) : GSem nD τ sig := (thr d c s, .dma q)

theorem cell_ne {q q' : DmaSem sig} (h : q ≠ q') : cellOf d c s q ≠ cellOf d c s q' := by
  intro e; apply h
  have e2 := (Prod.ext_iff.mp e).2
  injection e2

theorem cell_own (q : DmaSem sig) (h : (SemLoc.dma q : SemLoc sig).isScoped .scVector = true) : cellOf d c s q ∈ ownCells (thr d c s) :=
  mem_ownCells.mpr ⟨rfl, h⟩

abbrev restCells : Finset (GSem nD τ sig) :=
  ((((((ownCells (thr d c s)).erase (cellOf d c s (s5 0))).erase (cellOf d c s (s5 1))).erase (cellOf d c s (s6 0))).erase (cellOf d c s (s6 1))).erase
    (cellOf d c s cc0_scoped4.sem)).erase (cellOf d c s cc0_scoped5.sem)

theorem ownSems0_V :
    (ownSems0 (thr d c s) : sProp 𝕄)
      = iprop(semVal (cellOf d c s (s5 0)) 0 ∗ semVal (cellOf d c s (s5 1)) 0 ∗ semVal (cellOf d c s (s6 0)) 0 ∗ semVal (cellOf d c s (s6 1)) 0
          ∗ semVal (cellOf d c s cc0_scoped4.sem) 0 ∗ semVal (cellOf d c s cc0_scoped5.sem) 0 ∗ bigSep (restCells d c s) fun g => semVal g 0) := by
  unfold SparseCore.Cfg.ownSems0
  have m0 := cell_own d c s (s5 0) (by decide)
  have m1 := Finset.mem_erase.mpr ⟨cell_ne d c s (q := s5 1) (q' := s5 0) (by decide), cell_own d c s (s5 1) (by decide)⟩
  have m2 := Finset.mem_erase.mpr ⟨cell_ne d c s (q := s6 0) (q' := s5 1) (by decide),
    Finset.mem_erase.mpr ⟨cell_ne d c s (q := s6 0) (q' := s5 0) (by decide), cell_own d c s (s6 0) (by decide)⟩⟩
  have m3 := Finset.mem_erase.mpr ⟨cell_ne d c s (q := s6 1) (q' := s6 0) (by decide),
    Finset.mem_erase.mpr ⟨cell_ne d c s (q := s6 1) (q' := s5 1) (by decide),
    Finset.mem_erase.mpr ⟨cell_ne d c s (q := s6 1) (q' := s5 0) (by decide), cell_own d c s (s6 1) (by decide)⟩⟩⟩
  have m4 := Finset.mem_erase.mpr ⟨cell_ne d c s (q := cc0_scoped4.sem) (q' := s6 1) (by decide),
    Finset.mem_erase.mpr ⟨cell_ne d c s (q := cc0_scoped4.sem) (q' := s6 0) (by decide),
    Finset.mem_erase.mpr ⟨cell_ne d c s (q := cc0_scoped4.sem) (q' := s5 1) (by decide),
    Finset.mem_erase.mpr ⟨cell_ne d c s (q := cc0_scoped4.sem) (q' := s5 0) (by decide), cell_own d c s cc0_scoped4.sem (by decide)⟩⟩⟩⟩
  have m5 := Finset.mem_erase.mpr ⟨cell_ne d c s (q := cc0_scoped5.sem) (q' := cc0_scoped4.sem) (by decide),
    Finset.mem_erase.mpr ⟨cell_ne d c s (q := cc0_scoped5.sem) (q' := s6 1) (by decide),
    Finset.mem_erase.mpr ⟨cell_ne d c s (q := cc0_scoped5.sem) (q' := s6 0) (by decide),
    Finset.mem_erase.mpr ⟨cell_ne d c s (q := cc0_scoped5.sem) (q' := s5 1) (by decide),
    Finset.mem_erase.mpr ⟨cell_ne d c s (q := cc0_scoped5.sem) (q' := s5 0) (by decide), cell_own d c s cc0_scoped5.sem (by decide)⟩⟩⟩⟩⟩
  rw [SparseCore.bigSep_erase' m0, SparseCore.bigSep_erase' m1, SparseCore.bigSep_erase' m2, SparseCore.bigSep_erase' m3,
    SparseCore.bigSep_erase' m4, SparseCore.bigSep_erase' m5]

theorem ownBufs_V :
    (ownBufs (thr d c s) : sProp 𝕄)
      = iprop((∃ f, (thr d c s).loc cc0_scoped0 ↦{fullShare} f) ∗ (∃ f, (thr d c s).loc cc0_scoped2 ↦{fullShare} f)
          ∗ bigSep (((ownRefs (τ := τ) (.scVector (cV c s) (jV c s))).erase ((Proc.scVector (cV c s) (jV c s)).devRef cc0_scoped0)).erase
              ((Proc.scVector (cV c s) (jV c s)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV c s) (jV c s))
    (b := (Proc.scVector (cV c s) (jV c s)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV c s) (jV c s)) (b := (Proc.scVector (cV c s) (jV c s)).devRef cc0_scoped2) rfl⟩)]

/-! ## The result's blocks -/

/-- Block `t` of tile `s` of core `c`, among all. -/
abbrev bidx (t : Fin 32) : Fin 1024 := finProdFinEquiv (finProdFinEquiv (c, s), t)

theorem bidx_val (t : Fin 32) : (bidx c s t).val = base c s + t.val := by
  show t.val + 32 * (s.val + 16 * c.val) = 512 * c.val + 32 * s.val + t.val
  omega

abbrev oSet (b : Fin 1024) : Finset S131072x256.Idx := (Rect.part odiv b).set

theorem oRect_eq (t : Fin 32) : Rect.unit (s := S131072x256) ![128 * (base c s + t.val), 0] S128x256.size (inb_oB c s t) = Rect.part odiv (bidx c s t) := by
  unfold Rect.part Rect.block
  congr 1 <;> funext a
  · match a with
    | 0 =>
      show 128 * (base c s + t.val) = (bidx c s t).val * _
      rw [bidx_val, Nat.mul_comm]; rfl
    | 1 => simp [Shape.partIx, Shape.partSize]
  · match a with
    | 0 => simp [Shape.partSize]
    | 1 => simp [Shape.partSize]

theorem oB_set (t : Fin 32) : (oB c s t).view.set = oSet (bidx c s t) := by
  show ((oV).view.slice (Rect.unit (s := S131072x256) ![128 * (base c s + t.val), 0] S128x256.size (inb_oB c s t))).set = _
  exact (View.set_slice _ _).trans (Finset.map_refl.trans (congrArg (fun r : Rect S131072x256 => r.set) (oRect_eq c s t)))

abbrev oTile (f : Buf (Elt F) (oLoc d)) : sProp 𝕄 := bigSep Finset.univ fun t : Fin 32 => oLoc d ↦[oSet (bidx c s t)]{fullShare} f
abbrev oCore (f : Buf (Elt F) (oLoc d)) : sProp 𝕄 := bigSep Finset.univ fun s : Fin 16 => oTile d c s f

theorem oTile_eq [FloatOps F] (f : Buf (Elt F) (oLoc d)) : (oTile d c s f : sProp 𝕄) = oAll d c s f :=
  bigSep_congr fun t _ => by
    show _ = (oLoc d ↦[(oB c s t).view.set]{fullShare} f : sProp 𝕄)
    rw [oB_set]

theorem oWhole_eq (f : Buf (Elt F) (oLoc d)) : (oLoc d ↦{fullShare} f : sProp 𝕄) = bigSep Finset.univ fun c : Fin 2 => oCore d c f := by
  have h1 : (oLoc d ↦{fullShare} f : sProp 𝕄) = bigSep Finset.univ fun b : Fin 1024 => oLoc d ↦[oSet b]{fullShare} f := by
    rw [← pointsTo_biUnion Finset.univ (ℓ := oLoc d) oSet (fun p _ p' _ h => Rect.part_disjoint odiv h),
      (Rect.biUnion_part odiv : Finset.univ.biUnion oSet = Finset.univ)]
  refine h1.trans ?_
  refine (bigSep_univ_equiv (finProdFinEquiv (m := 32) (n := 32)) _).trans ?_
  refine (bigSep_univ_prod _).trans ?_
  refine (bigSep_univ_equiv (finProdFinEquiv (m := 2) (n := 16)) _).trans ?_
  exact bigSep_univ_prod _

/-! ## Shares -/

abbrev q1 (c : Fin 2) : PosShare TreeShare := pieceOf fullShare 2 (by decide) c
abbrev q2 (c : Fin 2) (s : Fin 16) : PosShare TreeShare := pieceOf (q1 c) 16 (by decide) s
abbrev q3 (c : Fin 2) (s : Fin 16) (p : Fin 2) : PosShare TreeShare := pieceOf (q2 c s) 2 (by decide) p

end Cert.Proof
-- ==== Proof.Launch.lean ====
/-
  The row gather's launch: what the two cores and their sixteen tiles are handed and hand back, the call on the TensorCore
  after the list is reshaped, and the run of the whole program: the gathered rows in the result, the arguments as they were.
-/
module

public import proofs.«01_k».proof.Proof.Split

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MM F

variable (m : (ℓ : Loc nD τ sig) → Buf (Elt F) ℓ) (ρ : Dev nD → PrngReg)

/-! ## What the handshakes carry -/

/-- The list as the call takes it, in one row. -/
def lst (d : Dev nD) : Buf (Elt F) (iLoc d) := fun i => shapeCast S1x131072 (m (jLoc d)) shapeCasts_S131072_S1x131072 i
/-- The rows the call leaves. -/
def res (d : Dev nD) : Buf (Elt F) (oLoc d) := gath (m (xLoc d)) (lst m d)

abbrev ends (d : Dev nD) (q : PosShare TreeShare) : sProp 𝕄 := iprop((xLoc d ↦{q} m (xLoc d)) ∗ (iLoc d ↦{q} lst m d))
abbrev coreHas (d : Dev nD) (c : Fin 2) (f : Buf (Elt F) (oLoc d)) : sProp 𝕄 := iprop(ends m d (q1 c) ∗ oCore d c f)
abbrev tileHas (d : Dev nD) (c : Fin 2) (s : Fin 16) (f : Buf (Elt F) (oLoc d)) : sProp 𝕄 := iprop(ends m d (q2 c s) ∗ oTile d c s f)

instance coreHas_storable (d : Dev nD) (c : Fin 2) (f : Buf (Elt F) (oLoc d)) : BI.Storable (upEmb : UEmb _ 𝕄) (coreHas m d c f) := inferInstance
instance tileHas_storable (d : Dev nD) (c : Fin 2) (s : Fin 16) (f : Buf (Elt F) (oLoc d)) : BI.Storable (upEmb : UEmb _ 𝕄) (tileHas m d c s f) := inferInstance

/-- Each core is handed a share of the table and of the list and its half of the result, each tile a share of that share
    and its blocks; they come back with the blocks at the gathered rows. -/
def P : (K (F := F)).Pay (nD := nD) (Val := Elt F) (Name := ℕ) (U := UU) where
  st := fun q d c => match q with | 0 => coreHas m d (Fin.cast nCore_zero c) (m (oLoc d))
  dn := fun q d c => match q with | 0 => coreHas m d (Fin.cast nCore_zero c) (res m d)
  go := fun q d c i => match q with | 0 => tileHas m d (Fin.cast nCore_zero c) (Fin.cast nSub_zero i) (m (oLoc d))
  td := fun q d c i => match q with | 0 => tileHas m d (Fin.cast nCore_zero c) (Fin.cast nSub_zero i) (res m d)
  x := fun _ _ => iprop(emp)

instance P_storable : (P (F := F) m).IsStorable where
  st q d c := match q with | 0 => coreHas_storable m d (Fin.cast nCore_zero c) (m (oLoc d))
  dn q d c := match q with | 0 => coreHas_storable m d (Fin.cast nCore_zero c) (res m d)
  go q d c i := match q with | 0 => tileHas_storable m d (Fin.cast nCore_zero c) (Fin.cast nSub_zero i) (m (oLoc d))
  td q d c i := match q with | 0 => tileHas_storable m d (Fin.cast nCore_zero c) (Fin.cast nSub_zero i) (res m d)

/-- What the proof asks of the launch memory: every entry of the list names a row of the table. -/
def PreOK : Prop := ∀ d : Dev nD, InRows (lst m d)

/-! ## One tile -/

theorem x_tile (d : Dev nD) (c : Fin 2) (s : Fin 16) (q : PosShare TreeShare) (f : Buf (Elt F) (xLoc d)) :
    (xLoc d ↦{q} f : sProp 𝕄) = ((tV).view.loc (thr d c s) ↦{q} f) := rfl
theorem i_tile (d : Dev nD) (c : Fin 2) (s : Fin 16) (f : Buf (Elt F) (iLoc d)) :
    (iLoc d ↦{q2 c s} f : sProp 𝕄) = iprop(((iV).view.loc (thr d c s) ↦{q3 c s 0} f) ∗ ((iV).view.loc (thr d c s) ↦{q3 c s 1} f)) :=
  (pointsTo_piecesOf Finset.univ f (by decide) (q2 c s)).trans (two _)

/-- What a tile owns and the task does not touch. -/
abbrev restHas (d : Dev nD) (c : Fin 2) (s : Fin 16) : sProp 𝕄 :=
  iprop((bigSep (((ownRefs (τ := τ) (.scVector (cV c s) (jV c s))).erase ((Proc.scVector (cV c s) (jV c s)).devRef cc0_scoped0)).erase
              ((Proc.scVector (cV c s) (jV c s)).devRef cc0_scoped2))
              fun b => iprop(∃ f, ((d, b) : Loc nD τ sig) ↦{fullShare} f)) ∗ bigSep (restCells d c s) fun g => (semVal g 0 : sProp 𝕄))

set_option maxHeartbeats 4000000 in
theorem tile_body (d : Dev nD) (c : Fin 2) (s : Fin 16) (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ tileHas m d c s (m (oLoc d))
        ∗ scopedBufs (thr d c s) ∗ scopedSems0 (thr d c s) ∗ owes (thr d c s) O W)
      ⊢ W1 d c s (cc0_gather (F := F) (crd c s) tV (Memref.isWhole_whole _) iV (Memref.isWhole_whole _) oV (Memref.isWhole_whole _)
          aV (Memref.isWhole_whole _) cc0_scoped1 bV (Memref.isWhole_whole _) cc0_scoped3 cc0_scoped4 cc0_scoped5)
        fun _ => iprop(tileHas m d c s (res m d)
            ∗ scopedBufs (thr d c s) ∗ scopedSems0 (thr d c s)
            ∗ ∃ W', ⌜∀ p ∈ W', p ∈ W ∨ p.2 = none⌝ ∗ owes (thr d c s) O W') := by
  have E1 : (scopedBufs (thr d c s) : sProp 𝕄) = ownBufs (thr d c s) := (K (F := F)).scopedBufs_V hF d (cV c s) (jV c s)
  have E2 : (scopedSems0 (thr d c s) : sProp 𝕄) = ownSems0 (thr d c s) := SparseCore.Cfg.scopedSems0_V (Val := Elt F) d (cV c s) (jV c s)
  rw [E1, E2, ownSems0_V, ownBufs_V]
  unfold tileHas ends
  rw [i_tile d c s, oTile_eq, oTile_eq]
  refine BIBase.Entails.trans ?_ ((sep_mono_left (task d c s (q3 c s) (q2 c s) (m (xLoc d)) (lst m d) (m (oLoc d)) O W (hpre d))).trans
    ((wp_frame_r (R := restHas d c s) frame (wpE (defs₀ (F := F)) 𝒱₀ (thr d c s) none) Set.univ).trans (wp_mono _ _ _ fun _ => ?_)))
  · iintro ⟨#Hlv, -, ⟨⟨Hx, Hi0, Hi1⟩, Ho⟩, ⟨⟨%fa, Ha⟩, ⟨%fb, Hb⟩, Hbufs⟩, ⟨H50, H51, H60, H61, H4, H5, Hsems⟩, HO⟩
    ihave Hmw := (show levAts (K (F := F)).L (K (F := F)).lev ⊢ Transfers.MayWaits (thr d c s) (default : HIx 1) O from
      (K (F := F)).mayWaits_none (thr := thr d c s) hO) $$ Hlv
    ihave Ha2 := (Entails.of_eq (a_split d c s fa)) $$ Ha
    icases Ha2 with ⟨Ha0, Ha1⟩
    ihave Hb2 := (Entails.of_eq (b_split d c s fb)) $$ Hb
    icases Hb2 with ⟨Hb0, Hb1⟩
    isplitr [Hbufs Hsems]
    swap
    · isplitl [Hbufs]; · iexact Hbufs
      iexact Hsems
    isplitl [Ha0 H50 Hi0]
    · isplitl [Ha0]; · iexists fa; iexact Ha0
      isplitl [H50]; · iexact H50
      iexact Hi0
    isplitl [Ha1 H51 Hi1]
    · isplitl [Ha1]; · iexists fa; iexact Ha1
      isplitl [H51]; · iexact H51
      iexact Hi1
    isplitl [Hb0 H60]
    · isplitl [Hb0]; · iexists fb; iexact Hb0
      iexact H60
    isplitl [Hb1 H61]
    · isplitl [Hb1]; · iexists fb; iexact Hb1
      iexact H61
    isplitl [Hx]; · iexact Hx
    isplitl [H4]; · iexact H4
    isplitl [H5]; · iexact H5
    isplitl [Ho]; · iexact Ho
    isplitl [HO]
    · iexists W; isplitr
      · ipureintro; exact fun p hp => .inl hp
      · iexact HO
    iexact Hmw
  · iintro ⟨⟨⟨Ha0, H50, Hi0⟩, ⟨Ha1, H51, Hi1⟩, ⟨Hb0, H60⟩, ⟨Hb1, H61⟩, Hx, H4, H5, Ho, HO⟩, Hbufs, Hsems⟩
    ihave Ha := (a_join d c s) $$ [Ha0 Ha1]
    · isplitl [Ha0]; · iexact Ha0
      iexact Ha1
    ihave Hb := (b_join d c s) $$ [Hb0 Hb1]
    · isplitl [Hb0]; · iexact Hb0
      iexact Hb1
    isplitl [Hx Hi0 Hi1 Ho]
    · isplitl [Hx Hi0 Hi1]
      · isplitl [Hx]; · iexact Hx
        isplitl [Hi0]; · iexact Hi0
        iexact Hi1
      iexact Ho
    isplitl [Ha Hb Hbufs]
    · isplitl [Ha]; · iexact Ha
      isplitl [Hb]; · iexact Hb
      iexact Hbufs
    isplitr [HO]
    · isplitl [H50]; · iexact H50
      isplitl [H51]; · iexact H51
      isplitl [H60]; · iexact H60
      isplitl [H61]; · iexact H61
      isplitl [H4]; · iexact H4
      isplitl [H5]; · iexact H5
      iexact Hsems
    iexact HO

/-! ## The obligation of a tile -/

theorem defs₀_vector (c : Fin τ.nSC) (s : Fin τ.nSub) :
    defs₀ (F := F) (.scVector c s) 0 ()
      = SparseCore.onTile hcore0 hsub0 (fun c s => cc0_gather (crd c s) tV (Memref.isWhole_whole _) iV (Memref.isWhole_whole _) oV (Memref.isWhole_whole _)
          aV (Memref.isWhole_whole _) cc0_scoped1 bV (Memref.isWhole_whole _) cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ hF hpre O W hO).trans (wp_mono frame _ _ fun _ => obl_post)

/-! ## A core's operands among its tiles -/

theorem ends_tiles (d : Dev nD) (c : Fin 2) (f : Buf (Elt F) (oLoc d)) :
    (coreHas m d c f : sProp 𝕄) = bigSep Finset.univ fun s : Fin 16 => tileHas m d c s f := by
  unfold coreHas tileHas ends
  rw [bigSep_sep', bigSep_sep']
  rw [show (xLoc d ↦{q1 c} m (xLoc d) : sProp 𝕄) = _ from pointsTo_piecesOf Finset.univ (m (xLoc d)) (o := 16) (by decide) (q1 c),
    show (iLoc d ↦{q1 c} lst m d : sProp 𝕄) = _ from pointsTo_piecesOf Finset.univ (lst m d) (o := 16) (by decide) (q1 c)]

theorem ends_cores (d : Dev nD) (f : Buf (Elt F) (oLoc d)) :
    (iprop(ends m d fullShare ∗ oLoc d ↦{fullShare} f) : sProp 𝕄) = bigSep Finset.univ fun c : Fin 2 => coreHas m d c f := by
  unfold coreHas ends
  rw [bigSep_sep', bigSep_sep', oWhole_eq]
  rw [show (xLoc d ↦{fullShare} m (xLoc d) : sProp 𝕄) = _ from pointsTo_piecesOf Finset.univ (m (xLoc d)) (o := 2) (by decide) fullShare,
    show (iLoc d ↦{fullShare} lst m d : sProp 𝕄) = _ from pointsTo_piecesOf Finset.univ (lst m d) (o := 2) (by decide) fullShare]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreHas m d (Fin.cast nCore_zero c) (m (oLoc d)) ⊢ |={Set.univ}=> iprop(
      (bigSep Finset.univ fun i : Fin ((K (F := F)).nSub 0) => tileHas m d (Fin.cast nCore_zero c) (Fin.cast nSub_zero i) (m (oLoc d)))
      ∗ ((bigSep Finset.univ fun i : Fin ((K (F := F)).nSub 0) => tileHas m d (Fin.cast nCore_zero c) (Fin.cast nSub_zero i) (res m d))
          -∗ coreHas m d (Fin.cast nCore_zero c) (res m d)))
  rw [bigSep_tasks (F := F) (fun i => tileHas m d (Fin.cast nCore_zero c) i (m (oLoc d))),
    bigSep_tasks (F := F) (fun i => tileHas m d (Fin.cast nCore_zero c) i (res m d)), ← ends_tiles, ← ends_tiles]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof

end
-- ==== Proof.Run.lean ====
/-
  The run of the whole program: on the TensorCore the list is reshaped to one row and the call made; at the end the
  result holds the gathered rows, the arguments are as they were and every counter is zero.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

theorem unscopedBufs_eq (d : Dev nD) (W : (b : Ref sig .tc) → Buf (Elt F) ((d.tc : Thread nD τ).loc b)) :
    (unscopedBufs d W : sProp 𝕄) = iprop((xLoc d ↦{fullShare} W main_arg0) ∗ (jLoc d ↦{fullShare} W main_arg1)
      ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = iprop(ends m d fullShare ∗ oLoc d ↦{fullShare} m (oLoc d)) :=
  (bigSep_cores (F := F) fun c => coreHas m d c (m (oLoc d))).trans (ends_cores m d _).symm
theorem dn0_eq (d : Dev nD) : (bigSep Finset.univ fun c : Fin ((K (F := F)).nCore 0) => (P m).dn 0 d c)
    = iprop(ends m d fullShare ∗ oLoc d ↦{fullShare} res m d) :=
  (bigSep_cores (F := F) fun c => coreHas m d c (res m d)).trans (ends_cores m d _).symm

abbrev opR : HloOp τ sig (Elt F) := StableHlo.reshape main_arg1 main_v0 (rfl : (.i32 : EltTy) = .i32) shapeCasts_S131072_S1x131072

abbrev V0 (d : Dev nD) : Valuation τ sig (Elt F) := fun b => m ((d, b) : Loc nD τ sig)

theorem opR_bufs (d : Dev nD) (W : Valuation τ sig (Elt F)) :
    (bigSep (opR (F := F)).bufs (fun b => ((d, b) : Loc nD τ sig) ↦{fullShare} W b) : sProp 𝕄)
      = iprop((jLoc d ↦{fullShare} W (Proc.devRef .tc main_arg1)) ∗ (iLoc d ↦{fullShare} W (Proc.devRef .tc main_v0))) := by
  rw [show (opR (F := F)).bufs = {Proc.devRef .tc main_arg1, Proc.devRef .tc main_v0} from rfl,
    SparseCore.bigSep_insert' (by decide), bigSep_singleton]

theorem opR_j (d : Dev nD) : (opR (F := F)).result (V0 m d) (Proc.devRef .tc main_arg1) = m (jLoc d) :=
  StableHlo.reshape_result_ne _ _ _ _ _ _ _ (by decide)
theorem opR_i (d : Dev nD) : (opR (F := F)).result (V0 m d) (Proc.devRef .tc main_v0) = lst m d :=
  StableHlo.reshape_result _ _ _ _ _ _ _

abbrev FIN (d : Dev nD) : sProp 𝕄 :=
  iprop((xLoc d ↦{fullShare} m (xLoc d)) ∗ (jLoc d ↦{fullShare} m (jLoc d)) ∗ oLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hj, Hi, Ho⟩, Hts, -⟩, -⟩
  iapply (wp_hlo 𝒱 (SparseCore.T d) none Set.univ (op := opR) (q := fun _ => fullShare) (F := V0 m d) (fun _ _ => rfl)) $$ [Hb Hj Hi]
  · isplitl [Hb]; · iexact Hb
    iapply (Entails.of_eq (opR_bufs d (V0 m d)).symm)
    isplitl [Hj]; · iexact Hj
    iexact Hi
  iintro ⟨Hb, Hji⟩
  ihave Hji2 := (Entails.of_eq ((opR_bufs d ((opR (F := F)).result (V0 m d))).trans (by rw [opR_j, opR_i]))) $$ Hji
  icases Hji2 with ⟨Hj, Hi⟩
  rw [wp_ret]; imodintro
  iapply ((K (F := F)).wp_run (D (F := F)) 𝒱 (EH := EH) (P := P m) κ d 0) $$ [Hst Hx Hi Hj Ho Hb Hts]
  isplitr; · iexact Hctx
  isplitl [Hst]; · iexact Hst
  isplitl [Hx Hi Ho]
  · iapply (Entails.of_eq (st0_eq m d).symm)
    isplitl [Hx Hi]
    · isplitl [Hx]; · iexact Hx
      iexact Hi
    iexact Ho
  iintro ⟨Hst, Hdn⟩
  ihave Hdn' := (Entails.of_eq (dn0_eq m d)) $$ Hdn
  icases Hdn' with ⟨⟨Hx, -⟩, Ho⟩
  imodintro
  isplitl [Hst]; · iexact Hst
  isplitr [Hb Hts]
  · isplitl [Hx]; · iexact Hx
    isplitl [Hj]; · iexact Hj
    iexact Ho
  isplitl [Hb] <;> iassumption

def fq (d : Dev nD) (s' : Phys nD τ sig (Elt F)) : Prop :=
  s'.mem.mem (xLoc d) = m (xLoc d) ∧ s'.mem.mem (jLoc d) = m (jLoc d) ∧ s'.mem.mem (oLoc d) = res m d

set_option maxRecDepth 16384 in
theorem hfin (d : Dev nD) (s' : Phys nD τ sig (Elt F)) : iprop(FIN m d ∗ SI s') ⊢ (⌜fq m d s'⌝ : sProp 𝕄) := by
  iintro ⟨⟨Hx, Hj, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := jLoc d) (I := Finset.univ) (q := fullShare) (f := m (jLoc d)))) $$ [HSI Hj]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (xLoc c) = m (xLoc c) ∧ r.2.mem (jLoc c) = m (jLoc c) ∧ r.2.mem (oLoc c) = res m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq)
    (fun q _ => match q with | 0 => tileObl m kfacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Rows.lean ====
/-
  The reference's value: entry `(r, l)` of `table[idx]` is the table at row `idx[r]`, column `l`, when every index names a
  row; and the kernel's list, reshaped to one row, holds `idx[r]` at `r`.
-/
module

public import proofs.«01_k».proof.Proof.Run
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_of_table
public import Idealize.ShloMosaic.Lib.ValueIdxCore

@[expose] public section

noncomputable section

namespace Cert.Proof

open Cert.KernelIdeal Cert.KernelIdeal.Gen
open Idealize.ShloMosaic Idealize.SL.Sem

/-- Entry `r` of the index argument. -/
def rix (r : Fin 131072) : S131072.Idx := fun | 0 => r | ⟨_ + 1, h⟩ => absurd h (Nat.not_lt.2 (Nat.le_add_left _ _))

/-- Entry `r` of the index argument broadcast to a column. -/
def cix (r : Fin 131072) : Cert.ReferenceIdeal.S131072x1.Idx :=
  fun | 0 => r | 1 => (0 : Fin 1) | ⟨_ + 2, h⟩ => absurd h (Nat.not_lt.2 (Nat.le_add_left _ _))

theorem lst_apply (J : S131072.Idx → BitVec 32) (r : Fin 131072) :
    shapeCast S1x131072 J shapeCasts_S131072_S1x131072 (lix r) = J (rix r) := by
  unfold shapeCast
  refine congrArg J (Shape.reshapeEquiv_eq_of_rowMajor _ ?_)
  rw [Shape.rowMajor_val_one, Shape.rowMajor_val_two]
  show r.val = 0 * 131072 + r.val
  omega

/-- What the precondition says of the indices. -/
theorem small_of_pre {F : FTy → Type} [FloatOps F] (T : S195584x256.Idx → BitVec 32) (J : S131072.Idx → BitVec 32)
    (h : Cert.Pre_rows_of_table.fn (F := F) T J = fun _ => 1#1) (j : S131072.Idx) : (J j).toNat < 195584 := by
  have andb (p q : Bool) : IntOp.andi (BitVec.ofBool p) (BitVec.ofBool q) = BitVec.ofBool (p && q) := by
    cases p <;> cases q <;> decide
  have oneb (p : Bool) : (BitVec.ofBool p = 1#1) ↔ p = true := by cases p <;> decide
  have e := congrFun h j
  simp only [Cert.Pre_rows_of_table.fn, andi, cmpi, broadcastInDim, constantI] at e
  simp only [IntOp.cmpi, andb, oneb, Bool.and_eq_true, BitVec.sle_eq_decide, BitVec.slt_eq_decide,
    decide_eq_true_eq, BitVec.toInt_eq_toNat_cond, BitVec.toNat_ofNat, Nat.reducePow, Nat.reduceMod] at e
  omega

/-- A word that names a row is not negative: jnp's wrap of negative indices leaves it. -/
theorem not_neg (v : BitVec 32) (h : v.toNat < 195584) : IntOp.cmpi .slt v 0#32 = 0#1 := by
  simp only [IntOp.cmpi, BitVec.slt_eq_decide, BitVec.toInt_eq_toNat_cond, BitVec.toNat_ofNat, Nat.reducePow, Nat.reduceMod]
  rw [decide_eq_false (by omega)]; rfl

/-- The gather of whole rows, as `table[idx]` states it. -/
abbrev rowDims (wf : GatherDims.WF S195584x256 Cert.ReferenceIdeal.S131072x1 S131072x256 [1] [0] [] [0] [] 1 ![1, 256]) :
    GatherDims S195584x256 Cert.ReferenceIdeal.S131072x1 S131072x256 where
  offsetDims := [1]
  collapsedSliceDims := [0]
  operandBatchingDims := []
  startIndicesBatchingDims := []
  startIndexMap := [0]
  indexVectorDim := 1
  sliceSizes := ![1, 256]
  wf := wf

theorem gather_rows {α : Type} (wf) (x : S195584x256.Idx → α) (idx : Cert.ReferenceIdeal.S131072x1.Idx → BitVec 32) (y : S131072x256.Idx) :
    Host.gather (rowDims wf) x idx y = x (tix ⟨min (idx (cix (y 0))).toInt.toNat 195583, by omega⟩ (y 1)) := by
  unfold Host.gather
  congr 1
  funext a
  refine Fin.ext ?_
  show (rowDims wf).start y idx a + (rowDims wf).batchCoord y a + (rowDims wf).offCoord y a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx y ⟨List.idxOf (0 : Fin 2) (rowDims wf).startIndexMap,
        List.idxOf_lt_length_iff.2 (List.mem_singleton.mpr rfl)⟩ = cix (y 0) := by
      funext b; refine Fin.ext ?_
      match b with
      | 0 => rfl
      | 1 => rfl
    rw [hsi]
    rfl
  | 1 =>
    have h0 : (rowDims wf).start y idx 1 = 0 := by
      unfold GatherDims.start
      rw [dif_neg (show ¬ (1 : Fin 2) ∈ (rowDims wf).startIndexMap by simp)]
    rw [h0]
    simp only [Nat.zero_add, Nat.add_zero]
    rfl

/-- The reference's term is the gathered rows. -/
theorem ref_rows (wf) (T : S195584x256.Idx → BitVec 32) (J : S131072.Idx → BitVec 32) (hJ : ∀ j, (J j).toNat < 195584)
    (h0 : Cert.ReferenceIdeal.S_.BroadcastsInDim S131072 (![] : Fin 0 → Fin S131072.rank)) (h1 : S131072.BroadcastsInDim Cert.ReferenceIdeal.S131072x1 ![0]) :
    Host.gather (rowDims wf) T (broadcastInDim Cert.ReferenceIdeal.S131072x1 ![0] h1
      (select (cmpi .slt J (broadcastInDim S131072 ![] h0 (constantI Cert.ReferenceIdeal.S_ 32 0#32)))
        (addi J (broadcastInDim S131072 ![] h0 (constantI Cert.ReferenceIdeal.S_ 32 195584#32))) J))
      = gath T (fun i => shapeCast S1x131072 J shapeCasts_S131072_S1x131072 i) := by
  funext y
  refine (gather_rows wf T _ y).trans ?_
  have e : ∀ r : Fin 131072, broadcastInDim Cert.ReferenceIdeal.S131072x1 ![0] h1
      (select (cmpi .slt J (broadcastInDim S131072 ![] h0 (constantI Cert.ReferenceIdeal.S_ 32 0#32)))
        (addi J (broadcastInDim S131072 ![] h0 (constantI Cert.ReferenceIdeal.S_ 32 195584#32))) J) (cix r) = J (rix r) := by
    intro r
    have ej : ∀ g, broadcastInDim (α := BitVec 32) Cert.ReferenceIdeal.S131072x1 ![0] h1 g (cix r) = g (rix r) := by
      intro g
      unfold broadcastInDim
      refine congrArg g ?_
      funext a
      match a with
      | 0 => rfl
    rw [ej]
    show Scalar.select (IntOp.cmpi .slt (J (rix r)) 0#32) _ _ = _
    rw [not_neg _ (hJ _)]
    rfl
  have hlt := hJ (rix (y 0))
  have hr : min (J (rix (y 0))).toInt.toNat 195583 = (J (rix (y 0))).toNat % 195584 := by
    rw [BitVec.toInt_eq_toNat_cond]; simp only [Nat.reducePow]; omega
  refine congrArg T (congrArg (fun r => tix r (y 1)) (Fin.ext ?_))
  exact (congrArg (fun v : BitVec 32 => min v.toInt.toNat 195583) (e (y 0))).trans
    (hr.trans (congrArg (fun v : BitVec 32 => v.toNat % 195584) (lst_apply J (y 0)).symm))

end Cert.Proof

end
-- ==== Proof.Combine.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val / 16, 0, 5] ∧ win0_6.index t = ![0, 0]
    ∧ win0_7.index t = ![0, 0] ∧ win0_8.index t = ![t.val, 0] := (by decide +kernel : ∀ t : Fin grid0.N, _)

theorem shift {a : Type} [AddCommMonoid a] (s x0 x1 x2 x3 x4 x5 x6 x7 : a) :
    s + x0 + x1 + x2 + x3 + x4 + x5 + x6 + x7 = (x0 + x1 + x2 + x3 + x4 + x5 + x6 + x7) + s := by ac_rfl

theorem shl (x : BitVec 32) : IntOp.shli .vector x 16#32 = IntOp.shli .host x 16#32 := by
  simp [IntOp.shli]

theorem block_eq (x0 x1 : Vec Ideal S8x512x256 .i32) (x2 : Vec Ideal S512x128 .f32) (x3 : Vec Ideal S512x1024 .bf16) (x4 : Vec Ideal S512x1024 .f32)
    (x5 : Vec Ideal S1x1x1024 .f32) (x6 : Vec Ideal S1024x512 .bf16) (x7 : Vec Ideal S256x1024 .bf16)
    (a0 a1 : Vec Ideal Cert.Reference3Ideal.S131072x256 .i32) (a2 : Vec Ideal Cert.Reference3Ideal.S16384x128 .f32) (a3 : Vec Ideal Cert.Reference3Ideal.S16384x1024 .bf16)
    (a4 : Vec Ideal Cert.Reference3Ideal.S16384x1024 .f32) (a5 : Vec Ideal Cert.Reference3Ideal.S40x6144 .f32) (a6 : Vec Ideal Cert.Reference3Ideal.S1024x512 .f32)
    (a7 : Vec Ideal Cert.Reference3Ideal.S256x1024 .f32) (r : Fin 512) (d : Fin 1024) (n : Fin 16384)
    (h0 : ∀ (j : Fin 8) (l : Fin 256), x0 (ix3 j r l) = a0 (ix2 ⟨j.val * 16384 + n.val, by omega⟩ l))
    (h1 : ∀ (j : Fin 8) (l : Fin 256), x1 (ix3 j r l) = a1 (ix2 ⟨j.val * 16384 + n.val, by omega⟩ l))
    (h2 : ∀ j : Fin 128, x2 (ix2 r j) = a2 (ix2 n j)) (h3 : ∀ k : Fin 1024, x3 (ix2 r k) = a3 (ix2 n k)) (h4 : x4 (ix2 r d) = a4 (ix2 n d))
    (h5 : x5 (ix3 0 0 d) = a5 (ix2 ⟨n.val / 8192, by omega⟩ ⟨5120 + d.val, by omega⟩)) (h6 : ∀ (k : Fin 1024) (j : Fin 512), x6 (ix2 k j) = a6 (ix2 k j))
    (h7 : ∀ k : Fin 256, x7 (ix2 k d) = a7 (ix2 k d)) :
    out0_8 x0 x1 x2 x3 x4 x5 x6 x7 (ix2 r d) = val_main_v39 (F := Ideal) a0 a1 a2 a3 a4 a5 a6 a7 (ix2 n d) := by
  frame_out
  unfold_payloads
  pointwise [val_main_v39, val_main_v38, val_main_v37, val_main_v36, val_main_v35, val_main_v34, val_main_v33, val_main_v32, val_main_v31, val_main_v25, val_main_v24, val_main_v23, val_main_v22, val_main_call0_v5, val_main_call0_v4, val_main_call0_cst_0, val_main_call0_v3, val_main_call0_v2, val_main_call0_cst, val_main_call0_v1, val_main_call0_v0, val_main_v21, val_main_v20, val_main_v19, val_main_v18, val_main_v17, val_main_v16, val_main_v15, val_main_v14, val_main_v13, val_main_v12, val_main_v11, val_main_v10, val_main_c_2, val_main_v9, val_main_v8, val_main_v7, val_main_c_1, val_main_v6, val_main_v5, val_main_v4, val_main_v3, val_main_c_0, val_main_v2, val_main_v1, val_main_v0, val_main_c]
  rw [shift]
  simp only [Fin.sum_univ_eight, Ideal.logistic, shl, h0, h1, h2, h3, h4, h5, h6, h7]
  pointwise

theorem block_at (c : Dev nD) (t : Fin cfg0.N) (r : Fin 512) (d : Fin 1024) (n : Fin 16384) (hn : n.val = t.val * 512 + r.val) :
    out0_8 (iblk m c 0 t) (iblk m c 1 t) (iblk m c 2 t) (iblk m c 3 t) (iblk m c 4 t) (iblk m c 5 t) (iblk m c 6 t) (iblk m c 7 t) (ix2 r d)
      = val_main_v39 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 n d) := by
  apply block_eq
  · intro j l; blk_simp [iblk]; entry_read; pointwise; blk_ext [idx t]
  · intro j l; blk_simp [iblk]; entry_read; pointwise; blk_ext [idx t]
  · intro j; blk_ext [iblk, V, idx t]
  · intro j; blk_ext [iblk, V, idx t]
  · blk_ext [iblk, V, idx t]
  · blk_simp [iblk]; entry_read; pointwise; blk_ext [idx t]
  · intro k j; blk_ext [iblk, V, idx t]
  · intro k; blk_ext [iblk, V, idx t]

theorem final (c : Dev nD) : (dats m 0 c).arrAt 8 cfg0.N
    = val_main_v39 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]
  obtain ⟨r, d, rfl⟩ : ∃ (r : Fin 512) (d : Fin 1024), y = ix2 r d := ⟨y 0, y 1, eq_ix2 y⟩
  have ht : t.val < 32 := t.isLt
  refine (block_at m c t r d ⟨t.val * 512 + r.val, by omega⟩ rfl).trans (congrArg _ ?_)
  blk_ext [idx t]

theorem value : Cert.algebraic_Kernel3Ideal_Reference3Ideal := by
  intro m ρ m' ρ' hpre hm
  refine ⟨fun c => (dats m 0 c).arrAt 8 cfg0.N, ?_, ?_⟩
  · exact Cert.Kernel3Ideal.Value.run_blocks (F := Ideal) m ρ
  · refine (θ_run Cert.Reference3Ideal.defs _ _).mono (fun r h c => ⟨(h c).1.trans ?_, (h c).2⟩) (Cert.Reference3Ideal.Value.run (F := Ideal) m' ρ')
    obtain ⟨h0, h1, h2, h3, h4, h5, h6, h7⟩ := hm c
    refine (val_main_v39_eq (F := Ideal) _ _ _ _ _ _ _ _).trans ?_
    rw [h0, h1, h2, h3, h4, h5, h6, h7]
    exact (final m c).symm
-- ==== Proof.CompressRef.lean ====
/-
  What the plain compression leaves at an index: the two halves of a block of 32 positions apart.
-/
module

public import proofs.«01_k».proof.Proof.Gen.Reference4Ideal.Read
public import Idealize.ShloMosaic.Lib.Pipeline.ValueKit

@[expose] public section

set_option maxRecDepth 16384

noncomputable section

namespace Cert.Reference4Ideal.Hand

open Idealize.ShloMosaic Idealize.ShloMosaic.TcCoe Idealize.SL.Sem
open Cert.Reference4Ideal Cert.Reference4Ideal.Gen Cert.Reference4Ideal.Read

theorem keys_at (x0 : Vec Ideal S32x576x4096 .bf16) (b : Fin 32) (s : Fin 576) (i : Fin 16) (h : Fin 2) (l : Fin 64) :
    val_main_v16 (F := Ideal) x0 (ix5 b s i h l) = x0 (ix3 b s ⟨h.val * 1024 + i.val * 64 + l.val, by omega⟩) := by
  pointwise [val_main_v16, val_main_v4, val_main_v3, val_main_v2, val_main_v1, val_main_v0]
  try (blk_ext)

theorem values_at (x0 : Vec Ideal S32x576x4096 .bf16) (b : Fin 32) (s : Fin 576) (i : Fin 16) (h : Fin 2) (l : Fin 64) :
    val_main_v35 (F := Ideal) x0 (ix5 b s i h l) = x0 (ix3 b s ⟨2048 + h.val * 1024 + i.val * 64 + l.val, by omega⟩) := by
  pointwise [val_main_v35, val_main_v9, val_main_v8, val_main_v7, val_main_v6, val_main_v5]
  try (blk_ext)

theorem key_block (x0 : Vec Ideal S32x576x4096 .bf16) (x1 : Vec Ideal S2x32x64 .f32) (b : Fin 32) (s : Fin 575) (h : Fin 2) (k : Fin 2048) :
    val_main_v25 (F := Ideal) x0 x1 (ix4 b s h k)
      = (if hk : k.val / 64 < 16 then x0 (ix3 b ⟨s.val, by omega⟩ ⟨h.val * 1024 + k.val / 64 * 64 + k.val % 64, by omega⟩)
          else x0 (ix3 b ⟨1 + s.val, by omega⟩ ⟨h.val * 1024 + (k.val / 64 - 16) * 64 + k.val % 64, by omega⟩))
        + x1 (ix3 0 ⟨k.val / 64, by omega⟩ ⟨k.val % 64, by omega⟩) := by
  pointwise [val_main_v25, val_main_v24, val_main_v23, val_main_v22, val_main_v21, val_main_v20, val_main_v19, val_main_v18, val_main_v17, val_main_v11, val_main_v10, keys_at]

theorem key_low (x0 : Vec Ideal S32x576x4096 .bf16) (x1 : Vec Ideal S2x32x64 .f32) (b : Fin 32) (s : Fin 575) (h : Fin 2) (k : Fin 1024) (q : Fin 2048) (hq : q.val = k.val) :
    val_main_v25 (F := Ideal) x0 x1 (ix4 b s h q) = x0 (ix3 b ⟨s.val, by omega⟩ ⟨h.val * 1024 + k.val, by omega⟩) + x1 (ix3 0 ⟨k.val / 64, by omega⟩ ⟨k.val % 64, by omega⟩) := by
  rw [key_block, dif_pos (by omega)]
  congr 2 <;> congr 1 <;> exact Fin.ext (by simp only; omega)

theorem key_high (x0 : Vec Ideal S32x576x4096 .bf16) (x1 : Vec Ideal S2x32x64 .f32) (b : Fin 32) (s : Fin 575) (h : Fin 2) (k : Fin 1024) (q : Fin 2048) (hq : q.val = 1024 + k.val) :
    val_main_v25 (F := Ideal) x0 x1 (ix4 b s h q) = x0 (ix3 b ⟨1 + s.val, by omega⟩ ⟨h.val * 1024 + k.val, by omega⟩) + x1 (ix3 0 ⟨16 + k.val / 64, by omega⟩ ⟨k.val % 64, by omega⟩) := by
  rw [key_block, dif_neg (by omega)]
  congr 2 <;> congr 1 <;> exact Fin.ext (by simp only; omega)

theorem key_weight (x2 : Vec Ideal S2x2048x256 .f32) (k : Fin 2048) (j : Fin 256) :
    val_main_v13 (F := Ideal) x2 (ix2 k j) = x2 (ix3 0 k j) := by
  pointwise [val_main_v13, val_main_v12]

theorem key_hidden (x0 : Vec Ideal S32x576x4096 .bf16) (x1 : Vec Ideal S2x32x64 .f32) (x2 : Vec Ideal S2x2048x256 .f32) (b : Fin 32) (s : Fin 575) (h : Fin 2) (j : Fin 256) :
    val_main_v26 (F := Ideal) x0 x1 x2 (ix4 b s h j)
      = (∑ k : Fin 1024, (x0 (ix3 b ⟨s.val, by omega⟩ ⟨h.val * 1024 + k.val, by omega⟩) + x1 (ix3 0 ⟨k.val / 64, by omega⟩ ⟨k.val % 64, by omega⟩)) * x2 (ix3 0 ⟨k.val, by omega⟩ j))
        + ∑ k : Fin 1024, (x0 (ix3 b ⟨1 + s.val, by omega⟩ ⟨h.val * 1024 + k.val, by omega⟩) + x1 (ix3 0 ⟨16 + k.val / 64, by omega⟩ ⟨k.val % 64, by omega⟩)) * x2 (ix3 0 ⟨1024 + k.val, by omega⟩ j) := by
  have hl : ∀ k, lidx_main_v26 (ix4 b s h j) k = ix4 b s h k := fun k => funext fun a => by fin_cases a <;> rfl
  have hr : ∀ k, ridx_main_v26 (ix4 b s h j) k = ix2 k j := fun k => funext fun a => by fin_cases a <;> rfl
  rw [val_main_v26_apply, Fin.sum_univ_two_halves 1024 1024 rfl]
  refine congrArg₂ (· + ·) (Finset.sum_congr rfl fun k _ => ?_) (Finset.sum_congr rfl fun k _ => ?_)
  · rw [hl, hr, key_low x0 x1 b s h k _ rfl, key_weight]
  · rw [hl, hr, key_high x0 x1 b s h k _ rfl, key_weight]

theorem key_silu (x0 : Vec Ideal S32x576x4096 .bf16) (x1 : Vec Ideal S2x32x64 .f32) (x2 : Vec Ideal S2x2048x256 .f32) (i : S32x575x2x256.Idx) :
    val_main_v27 (F := Ideal) x0 x1 x2 i = val_main_v26 (F := Ideal) x0 x1 x2 i * Ideal.logistic (val_main_v26 (F := Ideal) x0 x1 x2 i) := by
  rw [val_main_v27_apply, val_main_call0_v5_apply, val_main_call0_v4_apply, val_main_call0_cst_0_apply, val_main_call0_v3_apply, val_main_call0_v2_apply, val_main_call0_cst_apply, val_main_call0_v1_apply, val_main_call0_v0_apply]
  generalize val_main_v26 (F := Ideal) x0 x1 x2 i = u
  pointwise [Ideal.logistic]

theorem key_project (x3 : Vec Ideal S2x256x64 .f32) (j : Fin 256) (e : Fin 64) :
    val_main_v15 (F := Ideal) x3 (ix2 j e) = x3 (ix3 0 j e) := by
  pointwise [val_main_v15, val_main_v14]

theorem key_out (x0 : Vec Ideal S32x576x4096 .bf16) (x1 : Vec Ideal S2x32x64 .f32) (x2 : Vec Ideal S2x2048x256 .f32) (x3 : Vec Ideal S2x256x64 .f32) (b : Fin 32) (s : Fin 575) (h : Fin 2) (e : Fin 64) :
    val_main_v28 (F := Ideal) x0 x1 x2 x3 (ix4 b s h e)
      = ∑ j : Fin 256, (val_main_v26 (F := Ideal) x0 x1 x2 (ix4 b s h j) * Ideal.logistic (val_main_v26 (F := Ideal) x0 x1 x2 (ix4 b s h j))) * x3 (ix3 0 j e) := by
  have hl : ∀ k, lidx_main_v28 (ix4 b s h e) k = ix4 b s h k := fun k => funext fun a => by fin_cases a <;> rfl
  have hr : ∀ k, ridx_main_v28 (ix4 b s h e) k = ix2 k e := fun k => funext fun a => by fin_cases a <;> rfl
  rw [val_main_v28_apply]
  refine Finset.sum_congr rfl fun k _ => ?_
  rw [hl, hr, key_silu, key_project]

theorem value_block (x0 : Vec Ideal S32x576x4096 .bf16) (x1 : Vec Ideal S2x32x64 .f32) (b : Fin 32) (s : Fin 575) (h : Fin 2) (k : Fin 2048) :
    val_main_v44 (F := Ideal) x0 x1 (ix4 b s h k)
      = (if hk : k.val / 64 < 16 then x0 (ix3 b ⟨s.val, by omega⟩ ⟨2048 + h.val * 1024 + k.val / 64 * 64 + k.val % 64, by omega⟩)
          else x0 (ix3 b ⟨1 + s.val, by omega⟩ ⟨2048 + h.val * 1024 + (k.val / 64 - 16) * 64 + k.val % 64, by omega⟩))
        + x1 (ix3 1 ⟨k.val / 64, by omega⟩ ⟨k.val % 64, by omega⟩) := by
  pointwise [val_main_v44, val_main_v43, val_main_v42, val_main_v41, val_main_v40, val_main_v39, val_main_v38, val_main_v37, val_main_v36, val_main_v30, val_main_v29, values_at]

theorem value_low (x0 : Vec Ideal S32x576x4096 .bf16) (x1 : Vec Ideal S2x32x64 .f32) (b : Fin 32) (s : Fin 575) (h : Fin 2) (k : Fin 1024) (q : Fin 2048) (hq : q.val = k.val) :
    val_main_v44 (F := Ideal) x0 x1 (ix4 b s h q) = x0 (ix3 b ⟨s.val, by omega⟩ ⟨2048 + h.val * 1024 + k.val, by omega⟩) + x1 (ix3 1 ⟨k.val / 64, by omega⟩ ⟨k.val % 64, by omega⟩) := by
  rw [value_block, dif_pos (by omega)]
  congr 2 <;> congr 1 <;> exact Fin.ext (by simp only; omega)

theorem value_high (x0 : Vec Ideal S32x576x4096 .bf16) (x1 : Vec Ideal S2x32x64 .f32) (b : Fin 32) (s : Fin 575) (h : Fin 2) (k : Fin 1024) (q : Fin 2048) (hq : q.val = 1024 + k.val) :
    val_main_v44 (F := Ideal) x0 x1 (ix4 b s h q) = x0 (ix3 b ⟨1 + s.val, by omega⟩ ⟨2048 + h.val * 1024 + k.val, by omega⟩) + x1 (ix3 1 ⟨16 + k.val / 64, by omega⟩ ⟨k.val % 64, by omega⟩) := by
  rw [value_block, dif_neg (by omega)]
  congr 2 <;> congr 1 <;> exact Fin.ext (by simp only; omega)

theorem value_weight (x2 : Vec Ideal S2x2048x256 .f32) (k : Fin 2048) (j : Fin 256) :
    val_main_v32 (F := Ideal) x2 (ix2 k j) = x2 (ix3 1 k j) := by
  pointwise [val_main_v32, val_main_v31]

theorem value_hidden (x0 : Vec Ideal S32x576x4096 .bf16) (x1 : Vec Ideal S2x32x64 .f32) (x2 : Vec Ideal S2x2048x256 .f32) (b : Fin 32) (s : Fin 575) (h : Fin 2) (j : Fin 256) :
    val_main_v45 (F := Ideal) x0 x1 x2 (ix4 b s h j)
      = (∑ k : Fin 1024, (x0 (ix3 b ⟨s.val, by omega⟩ ⟨2048 + h.val * 1024 + k.val, by omega⟩) + x1 (ix3 1 ⟨k.val / 64, by omega⟩ ⟨k.val % 64, by omega⟩)) * x2 (ix3 1 ⟨k.val, by omega⟩ j))
        + ∑ k : Fin 1024, (x0 (ix3 b ⟨1 + s.val, by omega⟩ ⟨2048 + h.val * 1024 + k.val, by omega⟩) + x1 (ix3 1 ⟨16 + k.val / 64, by omega⟩ ⟨k.val % 64, by omega⟩)) * x2 (ix3 1 ⟨1024 + k.val, by omega⟩ j) := by
  have hl : ∀ k, lidx_main_v45 (ix4 b s h j) k = ix4 b s h k := fun k => funext fun a => by fin_cases a <;> rfl
  have hr : ∀ k, ridx_main_v45 (ix4 b s h j) k = ix2 k j := fun k => funext fun a => by fin_cases a <;> rfl
  rw [val_main_v45_apply, Fin.sum_univ_two_halves 1024 1024 rfl]
  refine congrArg₂ (· + ·) (Finset.sum_congr rfl fun k _ => ?_) (Finset.sum_congr rfl fun k _ => ?_)
  · rw [hl, hr, value_low x0 x1 b s h k _ rfl, value_weight]
  · rw [hl, hr, value_high x0 x1 b s h k _ rfl, value_weight]

theorem value_silu (x0 : Vec Ideal S32x576x4096 .bf16) (x1 : Vec Ideal S2x32x64 .f32) (x2 : Vec Ideal S2x2048x256 .f32) (i : S32x575x2x256.Idx) :
    val_main_v46 (F := Ideal) x0 x1 x2 i = val_main_v45 (F := Ideal) x0 x1 x2 i * Ideal.logistic (val_main_v45 (F := Ideal) x0 x1 x2 i) := by
  rw [val_main_v46_apply, val_main_call1_v5_apply, val_main_call1_v4_apply, val_main_call1_cst_0_apply, val_main_call1_v3_apply, val_main_call1_v2_apply, val_main_call1_cst_apply, val_main_call1_v1_apply, val_main_call1_v0_apply]
  generalize val_main_v45 (F := Ideal) x0 x1 x2 i = u
  pointwise [Ideal.logistic]

theorem value_project (x3 : Vec Ideal S2x256x64 .f32) (j : Fin 256) (e : Fin 64) :
    val_main_v34 (F := Ideal) x3 (ix2 j e) = x3 (ix3 1 j e) := by
  pointwise [val_main_v34, val_main_v33]

theorem value_out (x0 : Vec Ideal S32x576x4096 .bf16) (x1 : Vec Ideal S2x32x64 .f32) (x2 : Vec Ideal S2x2048x256 .f32) (x3 : Vec Ideal S2x256x64 .f32) (b : Fin 32) (s : Fin 575) (h : Fin 2) (e : Fin 64) :
    val_main_v47 (F := Ideal) x0 x1 x2 x3 (ix4 b s h e)
      = ∑ j : Fin 256, (val_main_v45 (F := Ideal) x0 x1 x2 (ix4 b s h j) * Ideal.logistic (val_main_v45 (F := Ideal) x0 x1 x2 (ix4 b s h j))) * x3 (ix3 1 j e) := by
  have hl : ∀ k, lidx_main_v47 (ix4 b s h e) k = ix4 b s h k := fun k => funext fun a => by fin_cases a <;> rfl
  have hr : ∀ k, ridx_main_v47 (ix4 b s h e) k = ix2 k e := fun k => funext fun a => by fin_cases a <;> rfl
  rw [val_main_v47_apply]
  refine Finset.sum_congr rfl fun k _ => ?_
  rw [hl, hr, value_silu, value_project]

theorem last_row (x0 : Vec Ideal S32x576x4096 .bf16) (x1 : Vec Ideal S2x32x64 .f32) (x2 : Vec Ideal S2x2048x256 .f32) (x3 : Vec Ideal S2x256x64 .f32) (b : Fin 32) (p : Fin 2) (r : Fin 576) (d : Fin 128)
    (hr : ¬ r.val < 575) : val_main_v54 (F := Ideal) x0 x1 x2 x3 (ix4 b p r d) = 0 := by
  pointwise [val_main_v54, val_main_v53, val_main_cst]
  rw [dif_neg hr]

theorem key_row (x0 : Vec Ideal S32x576x4096 .bf16) (x1 : Vec Ideal S2x32x64 .f32) (x2 : Vec Ideal S2x2048x256 .f32) (x3 : Vec Ideal S2x256x64 .f32) (b : Fin 32) (r : Fin 576) (d : Fin 128)
    (hr : r.val < 575) : val_main_v54 (F := Ideal) x0 x1 x2 x3 (ix4 b 0 r d)
      = val_main_v28 (F := Ideal) x0 x1 x2 x3 (ix4 b ⟨r.val, hr⟩ ⟨d.val / 64, by omega⟩ ⟨d.val % 64, by omega⟩) := by
  pointwise [val_main_v54, val_main_v52, val_main_v51, val_main_v50, val_main_v48]
  rw [dif_pos hr]

theorem value_row (x0 : Vec Ideal S32x576x4096 .bf16) (x1 : Vec Ideal S2x32x64 .f32) (x2 : Vec Ideal S2x2048x256 .f32) (x3 : Vec Ideal S2x256x64 .f32) (b : Fin 32) (r : Fin 576) (d : Fin 128)
    (hr : r.val < 575) : val_main_v54 (F := Ideal) x0 x1 x2 x3 (ix4 b 1 r d)
      = val_main_v47 (F := Ideal) x0 x1 x2 x3 (ix4 b ⟨r.val, hr⟩ ⟨d.val / 64, by omega⟩ ⟨d.val % 64, by omega⟩) := by
  pointwise [val_main_v54, val_main_v52, val_main_v51, val_main_v50, val_main_v49]
  rw [dif_pos hr]

end Cert.Reference4Ideal.Hand
-- ==== Proof.Compress.lean ====
/-
  The compression kernel's blocks and the plain compression over arrays.
-/
module

public import proofs.«01_k».proof.Defs
public import proofs.«01_k».proof.Proof.Gen.Kernel4Ideal.Value
public import proofs.«01_k».proof.Proof.CompressRef
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)
open Cert.Reference4Ideal.Hand Cert.Reference4Ideal.Read

variable (m : (ℓ : Loc nD τ sig) → Buf (Elt Ideal) ℓ)

theorem idx : ∀ t : Fin cfg0.N, win0_0.index t = ![t.val / 2, 0, 0] ∧ win0_1.index t = ![t.val % 2, 0, 0] ∧ win0_2.index t = ![t.val % 2, 0, 0]
    ∧ win0_3.index t = ![t.val % 2, 0, 0, 0] ∧ win0_4.index t = ![t.val / 2, t.val % 2, 0, 0] ∧ (grid0.coords t 1).val = t.val % 2 := (by decide +kernel : ∀ t : Fin grid0.N, _)

theorem whole_row : ∀ r : Fin 576, IntOp.cmpi .slt (BitVec.ofNat 32 r.val) 575#32 = if r.val < 575 then 1#1 else 0#1 := by decide +kernel

theorem key_part : Scalar.cmpi .eq (BitVec.ofNat 32 (0 : Fin 2).val) 0#32 = 1#1 := by decide
theorem value_part : Scalar.cmpi .eq (BitVec.ofNat 32 (1 : Fin 2).val) 0#32 = 0#1 := by decide

theorem select_on {α : Type} (a b : α) : Scalar.select 1#1 a b = a := rfl
theorem select_off {α : Type} (a b : α) : Scalar.select 0#1 a b = b := rfl

/-- Of two sums over heads, each weighted by whether the lane is the head's, the lane's own is left. -/
theorem own_head (u v w : Fin 256 → EReal) (d : Fin 128) :
    (∑ j, u j * (w j * if d.val < 64 then 1 else 0)) + ∑ j, v j * (w j * if d.val < 64 then 0 else 1)
      = ∑ j, (if d.val < 64 then u j else v j) * w j := by
  by_cases hd : d.val < 64
  · simp only [if_pos hd, mul_one, mul_zero, Finset.sum_const_zero, add_zero]
  · simp only [if_neg hd, mul_one, mul_zero, Finset.sum_const_zero, zero_add]

theorem block_eq (i : grid0.Coords) (p : Fin 2) (hp : (i 1).val = p.val)
    (x0 : Vec Ideal S1x576x4096 .bf16) (x1 : Vec Ideal S1x1024x512 .bf16) (x2 : Vec Ideal S1x2x1024 .f32) (x3 : Vec Ideal S1x2x256x128 .bf16)
    (a0 : Vec Ideal Cert.Reference4Ideal.S32x576x4096 .bf16) (a1 : Vec Ideal Cert.Reference4Ideal.S2x32x64 .f32) (a2 : Vec Ideal Cert.Reference4Ideal.S2x2048x256 .f32) (a3 : Vec Ideal Cert.Reference4Ideal.S2x256x64 .f32)
    (b : Fin 32) (r : Fin 576) (d : Fin 128)
    (h0 : ∀ (s : Fin 576) (l : Fin 4096), x0 (ix3 0 s l) = a0 (ix3 b s l))
    (h1 : ∀ (k : Fin 1024) (j : Fin 256), x1 (ix3 0 k ⟨j.val, by omega⟩) = a2 (ix3 p ⟨k.val, by omega⟩ j))
    (h1' : ∀ (k : Fin 1024) (j : Fin 256), x1 (ix3 0 k ⟨256 + j.val, by omega⟩) = a2 (ix3 p ⟨1024 + k.val, by omega⟩ j))
    (h2 : ∀ k : Fin 1024, x2 (ix3 0 0 k) = a1 (ix3 p ⟨k.val / 64, by omega⟩ ⟨k.val % 64, by omega⟩))
    (h2' : ∀ k : Fin 1024, x2 (ix3 0 1 k) = a1 (ix3 p ⟨16 + k.val / 64, by omega⟩ ⟨k.val % 64, by omega⟩))
    (h3 : ∀ j : Fin 256, x3 (ix4 0 0 j d) = a3 (ix3 p j ⟨d.val % 64, by omega⟩) * (if d.val < 64 then 1 else 0))
    (h3' : ∀ j : Fin 256, x3 (ix4 0 1 j d) = a3 (ix3 p j ⟨d.val % 64, by omega⟩) * (if d.val < 64 then 0 else 1)) :
    out0_4 i x0 x1 x2 x3 (ix4 0 0 r d) = val_main_v54 (F := Ideal) a0 a1 a2 a3 (ix4 b p r d) := by
  frame_out
  unfold_payloads
  pointwise
  simp only [h0, h1, h1', h2, h2', h3, h3', hp]
  rw [whole_row]
  by_cases hr : r.val < 575
  · rw [if_pos hr, select_on, own_head]
    have hroll : (r.val + 576 - 575) % 576 = 1 + r.val := by omega
    simp only [hroll]
    obtain rfl | rfl : p = 0 ∨ p = 1 := by omega
    · rw [key_row a0 a1 a2 a3 b r d hr, key_out]
      simp only [key_hidden, key_part, select_on]
      by_cases hd : d.val < 64
      · simp only [if_pos hd, show d.val / 64 = 0 by omega, Nat.zero_mul, Nat.zero_add]
      · simp only [if_neg hd, show d.val / 64 = 1 by omega, Nat.one_mul]
    · rw [value_row a0 a1 a2 a3 b r d hr, value_out]
      simp only [value_hidden, value_part, select_off]
      by_cases hd : d.val < 64
      · simp only [if_pos hd, show d.val / 64 = 0 by omega, Nat.zero_mul, Nat.add_zero]
      · simp only [if_neg hd, show d.val / 64 = 1 by omega, Nat.one_mul]
  · rw [last_row a0 a1 a2 a3 b p r d hr, if_neg hr]
    rfl

theorem enc_at (c : Dev nD) (p : Fin 2) (h : Fin 2) (k : Fin 1024) :
    V m c main_v4 (ix3 p h k) = m ((c : Thread nD τ).loc main_arg1) (ix3 p ⟨h.val * 16 + k.val / 64, by omega⟩ ⟨k.val % 64, by omega⟩) := by
  unfold V
  entry_read
  pointwise
  try blk_ext

theorem head_word : ∀ h e : Fin 2, IntOp.cmpi .eq (IntOp.addi (BitVec.ofNat 32 h.val) 0#32) (BitVec.ofNat 32 e.val) = if h = e then 1#1 else 0#1 := by decide

theorem proj_at (c : Dev nD) (p : Fin 2) (h : Fin 2) (j : Fin 256) (d : Fin 128) (e : Fin 2) (he : e.val = d.val / 64) :
    V m c main_v18 (ix4 p h j d) = (HMul.hMul (α := EReal) (β := EReal) (γ := EReal) (m ((c : Thread nD τ).loc main_arg3) (ix3 p j ⟨d.val % 64, by omega⟩)) (if h = e then 1 else 0)) := by
  unfold V
  entry_read
  pointwise
  rw [← he, head_word]
  refine congrArg (HMul.hMul (α := EReal) (β := EReal) (γ := EReal) (m (c, Proc.tc.devRef main_arg3) (ix3 p j ⟨d.val % 64, by omega⟩))) ?_
  by_cases hh : h = e
  · rw [if_pos hh, if_pos hh]; simp [FloatOps.uitofp]
  · rw [if_neg hh, if_neg hh]; simp [FloatOps.uitofp]

theorem first_at (c : Dev nD) (p : Fin 2) (k : Fin 1024) (j : Fin 256) (q : Fin 512) (hq : q.val = j.val) :
    V m c main_v3 (ix3 p k q) = m ((c : Thread nD τ).loc main_arg2) (ix3 p ⟨k.val, by omega⟩ j) := by
  unfold V
  entry_read
  pointwise
  rw [dif_pos (by omega)]
  blk_ext

theorem second_at (c : Dev nD) (p : Fin 2) (k : Fin 1024) (j : Fin 256) (q : Fin 512) (hq : q.val = 256 + j.val) :
    V m c main_v3 (ix3 p k q) = m ((c : Thread nD τ).loc main_arg2) (ix3 p ⟨1024 + k.val, by omega⟩ j) := by
  unfold V
  entry_read
  pointwise
  rw [dif_neg (by omega)]
  blk_ext

theorem block_at (c : Dev nD) (t : Fin cfg0.N) (r : Fin 576) (d : Fin 128) (b : Fin 32) (p : Fin 2) (hb : b.val = t.val / 2) (hp : p.val = t.val % 2) :
    out0_4 (grid0.coords t) (iblk m c 0 t) (iblk m c 1 t) (iblk m c 2 t) (iblk m c 3 t) (ix4 0 0 r d)
      = val_main_v54 (F := Ideal) (m ((c : Thread nD τ).loc main_arg0)) (m ((c : Thread nD τ).loc main_arg1)) (m ((c : Thread nD τ).loc main_arg2))
          (m ((c : Thread nD τ).loc main_arg3)) (ix4 b p r d) := by
  apply block_eq (grid0.coords t) p ((idx t).2.2.2.2.2.trans hp.symm)
  · intro s l; blk_ext [iblk, V, idx t]
  · intro k j
    refine Eq.trans ?_ (first_at m c p k j ⟨j.val, by omega⟩ rfl)
    blk_ext [iblk, idx t]
  · intro k j
    refine Eq.trans ?_ (second_at m c p k j ⟨256 + j.val, by omega⟩ rfl)
    blk_ext [iblk, idx t]
  · intro k
    refine Eq.trans ?_ ((enc_at m c p 0 k).trans (congrArg _ (by blk_ext)))
    blk_ext [iblk, idx t]
  · intro k
    refine Eq.trans ?_ ((enc_at m c p 1 k).trans (congrArg _ (by blk_ext)))
    blk_ext [iblk, idx t]
  · intro j
    refine Eq.trans ?_ ((proj_at m c p 0 j d ⟨d.val / 64, by omega⟩ rfl).trans (congrArg (HMul.hMul (α := EReal) (β := EReal) (γ := EReal) (m ((c : Thread nD τ).loc main_arg3) (ix3 p j ⟨d.val % 64, by omega⟩))) ?_))
    · blk_ext [iblk, idx t]
    · by_cases hd : d.val < 64
      · rw [if_pos hd, if_pos (Fin.ext (by simp only [Fin.val_zero]; omega))]
      · rw [if_neg hd, if_neg (fun h => by have := congrArg Fin.val h; simp only [Fin.val_zero] at this; omega)]
  · intro j
    refine Eq.trans ?_ ((proj_at m c p 1 j d ⟨d.val / 64, by omega⟩ rfl).trans (congrArg (HMul.hMul (α := EReal) (β := EReal) (γ := EReal) (m ((c : Thread nD τ).loc main_arg3) (ix3 p j ⟨d.val % 64, by omega⟩))) ?_))
    · blk_ext [iblk, idx t]
    · by_cases hd : d.val < 64
      · rw [if_pos hd, if_neg (fun h => by have := congrArg Fin.val h; simp only [Fin.val_one] at this; omega)]
      · rw [if_neg hd, if_pos (Fin.ext (by simp only [Fin.val_one]; omega))]

theorem final (c : Dev nD) : (dats m 0 c).arrAt 4 cfg0.N
    = val_main_v54 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  obtain ⟨r, d, rfl⟩ : ∃ (r : Fin 576) (d : Fin 128), y = ix4 0 0 r d :=
    ⟨y 2, y 3, (eq_ix4 y).trans (by congr 1 <;> exact Subsingleton.elim (α := Fin 1) _ _)⟩
  have ht : t.val < 64 := t.isLt
  refine (block_at m c t r d ⟨t.val / 2, by omega⟩ ⟨t.val % 2, by omega⟩ rfl rfl).trans (congrArg _ ?_)
  blk_ext [idx t]

theorem value : Cert.algebraic_Kernel4Ideal_Reference4Ideal := by
  intro m ρ m' ρ' hpre hm
  refine ⟨fun c => (dats m 0 c).arrAt 4 cfg0.N, ?_, ?_⟩
  · exact Cert.Kernel4Ideal.Value.run_blocks (F := Ideal) m ρ
  · refine (θ_run Cert.Reference4Ideal.defs _ _).mono (fun r h c => ⟨(h c).1.trans ?_, (h c).2⟩) (Cert.Reference4Ideal.Value.run (F := Ideal) m' ρ')
    obtain ⟨h0, h1, h2, h3⟩ := hm c
    refine (val_main_v54_eq (F := Ideal) m' c).trans ?_
    rw [h0, h1, h2, h3]
    exact (final m c).symm

end Cert.Kernel4Ideal.Hand
-- ==== Proof.ExpertsTables.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.Affine

/-! # The expert call's two tables

The call reads two tables of words. The first gives for every block of 1024 rows the expert the block
belongs to. The second holds one word, the number of blocks in use. This file names the words, states
the bounds the call needs, and gives the index maps and the branch conditions in closed form. -/

@[expose] public section

noncomputable section

namespace Cert.Kernel2Ideal.Hand

open Cert.Kernel2Ideal Cert.Kernel2Ideal.Gen
open Idealize.ShloMosaic Idealize.ShloMosaic.TcCoe

variable {F : FTy → Type} [FloatOps F]

/-- The expert of block `b`. -/
def be (pf : pre0.Contents (Elt F)) (b : Fin 191) : BitVec 32 :=
  pf 0 (fun a => Fin.cast (by fin_cases a; rfl) b)

/-- The number of blocks in use. -/
def nu (pf : pre0.Contents (Elt F)) : BitVec 32 :=
  pf 1 (fun a => Fin.cast (by fin_cases a; rfl) (0 : Fin 1))

/-- The bounds on the tables: every expert below 64, and between 1 and 191 blocks in use. -/
structure Ok (pf : pre0.Contents (Elt F)) : Prop where
  be_lt : ∀ b, (be pf b).toNat < 64
  nu_pos : 1 ≤ (nu pf).toNat
  nu_le : (nu pf).toNat ≤ 191

/-- The one coordinate of a grid point. -/
abbrev pt (i : grid0.Coords) : Fin 191 := i 0

theorem pt_word (i : grid0.Coords) : (BitVec.ofNat 32 (i 0).val).toNat = (pt i).val := by
  have : (pt i).val < 191 := (pt i).isLt
  rw [BitVec.toNat_ofNat]
  show (pt i).val % _ = _
  omega

/-- A load of one word of the first table through a rectangle at `off` reads the expert of that block. -/
theorem read_be (pf : pre0.Contents (Elt F)) (off : Fin 1 → Nat) (inb : ∀ a, off a + S1.size a ≤ S191.size a)
    (h1 : S1.numel = 1) (b : Fin 191) (hb : off 0 = b.val) :
    pf.at 0 (Rect.unit (s := S191) off S1.size inb) h1 = be pf b := by
  unfold be
  refine congrArg (pf 0) (funext fun a => Fin.ext ?_)
  fin_cases a
  have hx : (Shape.Idx.first (s := S1) (h1.symm ▸ Nat.one_pos) 0).val < 1 := (Shape.Idx.first (s := S1) (h1.symm ▸ Nat.one_pos) 0).isLt
  show off 0 + (Shape.Idx.first (s := S1) (h1.symm ▸ Nat.one_pos) 0).val * 1 = b.val
  omega

/-- A load of the second table's word reads the number of blocks in use. -/
theorem read_nu (pf : pre0.Contents (Elt F)) (inb : ∀ a, (![0] : Fin 1 → Nat) a + S1.size a ≤ S1.size a) (h1 : S1.numel = 1) :
    pf.at 1 (Rect.unit (s := S1) ![0] S1.size inb) h1 = nu pf := by
  unfold nu
  refine congrArg (pf 1) (funext fun a => Fin.ext ?_)
  fin_cases a
  have hx : (Shape.Idx.first (s := S1) (h1.symm ▸ Nat.one_pos) 0).val < 1 := (Shape.Idx.first (s := S1) (h1.symm ▸ Nat.one_pos) 0).isLt
  show 0 + (Shape.Idx.first (s := S1) (h1.symm ▸ Nat.one_pos) 0).val * 1 = 0
  omega

theorem readD_nu (pf : pre0.Contents (Elt F)) : pf.atD 1 ![0] = nu pf := by
  unfold nu Pipeline.Prefetch.Contents.atD
  rw [dif_pos (by intro a; fin_cases a; decide)]
  refine congrArg (pf 1) (funext fun a => Fin.ext ?_)
  fin_cases a
  rfl

/-! ## Words -/

theorem slt_small (x y : BitVec 32) (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

/-- The body runs at a point exactly when the point is below the number of blocks in use. -/
theorem cond_iff (i : grid0.Coords) (v : BitVec 32) (hv : v.toNat ≤ 191) : k0_cond1 i v = 1#1 ↔ (pt i).val < v.toNat := by
  have hp := pt_word i
  have hl : (pt i).val < 191 := (pt i).isLt
  have hs := slt_small (BitVec.ofNat 32 (i 0).val) v (by rw [hp]; omega) (by omega)
  rw [hp] at hs
  unfold k0_cond1
  show Scalar.cmpi .ne (Scalar.extui (BitVec.ofBool ((BitVec.ofNat 32 (i 0).val).slt v))) 0#32 = 1#1 ↔ _
  rw [hs]
  by_cases h : (pt i).val < v.toNat
  · simp only [h, decide_true, iff_true]; decide
  · simp only [h, decide_false, iff_false]; decide

/-- The row block a point works on: the point itself, held at the last block in use. -/
theorem min_word (i : grid0.Coords) (v : BitVec 32) (h1 : 1 ≤ v.toNat) (hv : v.toNat ≤ 191) :
    (Scalar.minsi (BitVec.ofNat 32 (i 0).val) (Scalar.subi v 1#32)).toNat = min (pt i).val (v.toNat - 1) := by
  have hp := pt_word i
  have hl : (pt i).val < 191 := (pt i).isLt
  have hsub : (Scalar.subi v 1#32).toNat = v.toNat - 1 := by
    show (v - 1#32).toNat = _
    rw [BitVec.toNat_sub]; simp; omega
  have hs := slt_small (BitVec.ofNat 32 (i 0).val) (Scalar.subi v 1#32) (by rw [hp]; omega) (by rw [hsub]; omega)
  rw [hp, hsub] at hs
  unfold Scalar.minsi IntOp.minsi
  rw [hs]
  by_cases h : (pt i).val < v.toNat - 1
  · simp only [h, decide_true, if_true, hp]; omega
  · simp only [h, decide_false, hsub]; simp; omega

theorem off1_eq (i : grid0.Coords) : k0_off1 i 0 = (pt i).val := pt_word i
theorem off2_eq (i : grid0.Coords) : k0_off2 i 0 = (pt i).val := pt_word i

theorem off3_eq (i : grid0.Coords) : k0_off3 i 0 = (pt i).val - 1 := by
  have key : ∀ n : Fin 191, (Scalar.maxsi (Scalar.subi (BitVec.ofNat 32 n.val) 1#32) 0#32).toNat = n.val - 1 := by decide +kernel
  exact key (pt i)

/-- The condition under which the body refills its copies of the weights. -/
abbrev refillWord (i : grid0.Coords) (v6 v10 : BitVec 32) : BitVec 1 :=
  Scalar.cmpi .ne (Scalar.extui (Scalar.ori (Scalar.cmpi .eq (BitVec.ofNat 32 (i 0).val) 0#32) (Scalar.cmpi .ne v6 v10))) 0#32

theorem refill_iff (i : grid0.Coords) (v6 v10 : BitVec 32) : refillWord i v6 v10 = 1#1 ↔ ((pt i).val = 0 ∨ v6 ≠ v10) := by
  have e1 : Scalar.cmpi .eq (BitVec.ofNat 32 (i 0).val) 0#32 = BitVec.ofBool (decide ((pt i).val = 0)) := by
    have key : ∀ n : Fin 191, Scalar.cmpi .eq (BitVec.ofNat 32 n.val) 0#32 = BitVec.ofBool (decide (n.val = 0)) := by decide +kernel
    exact key (pt i)
  have e2 : Scalar.cmpi .ne v6 v10 = BitVec.ofBool (decide (v6 ≠ v10)) := by
    show BitVec.ofBool (v6 != v10) = _
    congr 1
    by_cases h : v6 = v10 <;> simp [h]
  show Scalar.cmpi .ne (Scalar.extui (Scalar.ori _ _)) 0#32 = 1#1 ↔ _
  rw [e1, e2]
  by_cases ha : (pt i).val = 0 <;> by_cases hb : v6 = v10 <;> simp only [ha, hb, ne_eq, decide_true, decide_false, not_true, not_false_iff, true_or, or_true, or_false, false_or, iff_true, iff_false] <;> decide

/-! ## The index maps -/

theorem ix_row (pf : pre0.Contents (Elt F)) (h : Ok pf) (i : grid0.Coords) :
    cc0_transform_0 inb_S1_S1_0 numel1_S1 pf i = ![min (pt i).val ((nu pf).toNat - 1), 0] := by
  unfold cc0_transform_0
  show ![(Scalar.minsi (BitVec.ofNat 32 (i 0).val) (Scalar.subi (pf.at 1 (Rect.unit (s := S1) ![0] S1.size inb_S1_S1_0) numel1_S1) 1#32)).toNat, 0] = _
  rw [read_nu, min_word i (nu pf) h.nu_pos h.nu_le]

theorem ix_expert (pf : pre0.Contents (Elt F)) (i : grid0.Coords) :
    cc0_transform_2 k0_off1_inb numel1_S1 pf i = ![(be pf (pt i)).toNat, 0, 0] := by
  unfold cc0_transform_2
  exact congrArg (fun w : BitVec 32 => ![w.toNat, 0, 0]) (read_be pf _ (k0_off1_inb i) numel1_S1 (pt i) (pt_word i))

/-- The tables within bounds are admissible: every window's block lies inside its array. -/
theorem ok_of (pf : pre0.Contents (Elt F)) (h : Ok pf) : ok0 pf := by
  have hrow : ∀ (i : grid0.Coords) (n m : Nat), ∀ a, (cc0_transform_0 inb_S1_S1_0 numel1_S1 pf i a + 1) * (![1024, m] : Fin 2 → Nat) a ≤ (![195584, m] : Fin 2 → Nat) a := by
    intro i n m a
    rw [ix_row pf h i]
    have hl : (pt i).val < 191 := (pt i).isLt
    fin_cases a
    · show (min (pt i).val ((nu pf).toNat - 1) + 1) * 1024 ≤ 195584
      omega
    · show (0 + 1) * m ≤ m
      omega
  have hexp : ∀ (i : grid0.Coords) (n m : Nat), ∀ a, (cc0_transform_2 k0_off1_inb numel1_S1 pf i a + 1) * (![1, n, m] : Fin 3 → Nat) a ≤ (![64, n, m] : Fin 3 → Nat) a := by
    intro i n m a
    rw [ix_expert pf i]
    have hb := h.be_lt (pt i)
    fin_cases a
    · show ((be pf (pt i)).toNat + 1) * 1 ≤ 64
      omega
    · show (0 + 1) * n ≤ n
      omega
    · show (0 + 1) * m ≤ m
      omega
  refine ⟨fun i => ⟨hrow i 0 256, .inl rfl⟩, fun i => ⟨hrow i 0 256, .inl rfl⟩, fun i => ⟨hexp i 1024 512, .inl rfl⟩,
    fun i => ⟨hexp i 256 1024, .inl rfl⟩, fun i => ⟨hrow i 0 512, .inr ?_⟩, fun i => ⟨hrow i 0 512, .inr ?_⟩⟩
  · exact Affine.block_words_dvd (of_decide_eq_true rfl) (by decide)
  · exact Affine.block_words_dvd (of_decide_eq_true rfl) (by decide)

/-! ## The pipeline at the tables -/

variable (pf : pre0.Contents (Elt F)) (h : Ok pf)

/-- The tables as admissible contents. -/
abbrev adm : (pcfg0 (F := F)).Adm := ⟨pf, ok_of pf h⟩

/-- The pipeline at these tables. -/
abbrev cfgA : Pipeline.Cfg sig Λ₀ := cfg0 (adm pf h)

theorem N_eq : (cfgA pf h).N = 191 := N_0

theorem pt_coords (t : Fin (cfgA pf h).N) : (pt ((cfgA pf h).grid.coords t)).val = t.val := by
  have ht : t.val < 191 := lt_of_lt_of_eq t.isLt (N_eq pf h)
  have e := Pipeline.Grid.coords_val (G := grid0) t 0 (S := 1) (B := 191) (by decide) rfl
  refine Eq.trans e ?_
  omega

theorem idle4 (t : Fin (cfgA pf h).N) : (cfgA pf h).idle 4 ((cfgA pf h).grid.coords t) = decide ((nu pf).toNat ≤ t.val) := by
  show (!(k0_cond1 ((cfgA pf h).grid.coords t) (pf.atD 1 ![0]) == 1#1)) = _
  rw [readD_nu]
  have e := cond_iff ((cfgA pf h).grid.coords t) (nu pf) h.nu_le
  rw [pt_coords] at e
  by_cases hc : t.val < (nu pf).toNat
  · rw [e.mpr hc, decide_eq_false (by omega)]; rfl
  · rw [decide_eq_true (by omega)]
    have : (k0_cond1 ((cfgA pf h).grid.coords t) (nu pf) == 1#1) = false := beq_eq_false_iff_ne.mpr fun hh => hc (e.mp hh)
    rw [this]; rfl

theorem idle5 (t : Fin (cfgA pf h).N) : (cfgA pf h).idle 5 ((cfgA pf h).grid.coords t) = decide ((nu pf).toNat ≤ t.val) :=
  idle4 pf h t

theorem index_row (w : Fin 6) (hw : w = 0 ∨ w = 1 ∨ w = 4 ∨ w = 5) (t : Fin (cfgA pf h).N) (a : Fin ((cfgA pf h).win w).shape.rank) :
    ((cfgA pf h).win w).index t a = if a.val = 0 then min t.val ((nu pf).toNat - 1) else 0 := by
  have e := ix_row pf h ((cfgA pf h).grid.coords t)
  rw [pt_coords] at e
  rcases hw with rfl | rfl | rfl | rfl
  all_goals
    refine (congrFun e a).trans ?_
    fin_cases a <;> rfl

theorem index_expert (w : Fin 6) (hw : w = 2 ∨ w = 3) (t : Fin (cfgA pf h).N) (a : Fin ((cfgA pf h).win w).shape.rank) :
    ((cfgA pf h).win w).index t a = if a.val = 0 then (be pf (pt ((cfgA pf h).grid.coords t))).toNat else 0 := by
  have e := ix_expert pf ((cfgA pf h).grid.coords t)
  rcases hw with rfl | rfl
  all_goals
    refine (congrFun e a).trans ?_
    fin_cases a <;> rfl

/-- An output's block is written back where the next point works on another block, and at the last point. -/
theorem flush_row (w : Fin 6) (hw : w = 4 ∨ w = 5) (t : Fin (cfgA pf h).N) :
    ((cfgA pf h).win w).flush t = decide (t.val + 1 = 191 ∨ t.val + 1 < (nu pf).toNat) := by
  have hN := N_eq pf h
  have hO : ((cfgA pf h).win w).isOut = true := by rcases hw with rfl | rfl <;> rfl
  have h0 : 0 < ((cfgA pf h).win w).shape.rank := by rcases hw with rfl | rfl <;> exact Nat.zero_lt_two
  have hw' : w = 0 ∨ w = 1 ∨ w = 4 ∨ w = 5 := by rcases hw with rfl | rfl <;> simp
  have key : (t.val + 1 = (cfgA pf h).N ∨ ∃ hlt : t.val + 1 < (cfgA pf h).N, ((cfgA pf h).win w).index ⟨t.val + 1, hlt⟩ ≠ ((cfgA pf h).win w).index t)
      ↔ (t.val + 1 = 191 ∨ t.val + 1 < (nu pf).toNat) := by
    have hle := h.nu_le
    have hpos := h.nu_pos
    constructor
    · rintro (h1 | ⟨hlt, hne⟩)
      · exact .inl (h1.trans hN)
      · right
        by_contra hc
        refine hne (funext fun a => ?_)
        rw [index_row pf h w hw', index_row pf h w hw']
        split
        · show min (t.val + 1) _ = _
          omega
        · rfl
    · rintro (h1 | h1)
      · exact .inl (h1.trans hN.symm)
      · refine .inr ⟨lt_of_lt_of_eq (by omega) hN.symm, fun hc => ?_⟩
        have := congrFun hc ⟨0, h0⟩
        rw [index_row pf h w hw', index_row pf h w hw', if_pos rfl, if_pos rfl] at this
        have : min (t.val + 1) ((nu pf).toNat - 1) = min t.val ((nu pf).toNat - 1) := this
        omega
  unfold Pipeline.Window.flush
  rw [hO, Bool.true_and, ← decide_eq_decide.mpr key]
  rw [Bool.decide_or]

/-- From the first point past the blocks in use on, an output's buffer is not fresh. -/
theorem fresh_row (w : Fin 6) (hw : w = 4 ∨ w = 5) : ∀ n, (nu pf).toNat ≤ n → n < 191 → (cfgA pf h).fresh w n = false := by
  have hpos := h.nu_pos
  intro n
  induction n with
  | zero => intro h1; omega
  | succ n ih =>
    intro h1 h2
    have hn : n < (cfgA pf h).N := by rw [N_eq]; omega
    rw [Pipeline.Cfg.fresh_succ (cfgA pf h) w n hn, flush_row pf h w hw]
    have hidle : (cfgA pf h).idle w ((cfgA pf h).grid.coords ⟨n, hn⟩) = decide ((nu pf).toNat ≤ n) := by
      rcases hw with rfl | rfl
      · exact idle4 pf h ⟨n, hn⟩
      · exact idle5 pf h ⟨n, hn⟩
    rw [hidle]
    have hf : decide (n + 1 = 191 ∨ n + 1 < (nu pf).toNat) = false := by
      rw [decide_eq_false_iff_not]; omega
    show (decide (n + 1 = 191 ∨ n + 1 < (nu pf).toNat) || _) = false
    rw [hf, Bool.false_or]
    by_cases hc : (nu pf).toNat ≤ n
    · rw [ih hc (by omega), Bool.and_false]
    · simp [hc]

end Cert.Kernel2Ideal.Hand

end
-- ==== Proof.ExpertsBody.lean ====
module

public import proofs.«01_k».proof.Proof.ExpertsTables
public import Idealize.ShloMosaic.Lib.Pipeline.Value

/-! # The expert call's body at one point

At a point below the number of blocks in use the body refills its two copies of the weights when the
expert is another one than at the point before, and leaves the two halves of the block's result in the
output buffers. At any other point it reads one word and does nothing. -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables, each held at a share. -/
abbrev tables (c : Dev nD) (q : PosShare TreeShare) (pf : pre0.Contents (Elt F)) : sProp 𝕄 :=
  iprop((((c : Thread nD τ).loc main_arg2) ↦{q} (pf 0)) ∗ (((c : Thread nD τ).loc main_arg3) ↦{q} (pf 1)))

set_option maxHeartbeats 1000000 in
/-- A point past the blocks in use: the body reads the number of blocks and returns. -/
theorem sound_idle (c : Dev nD) (E : Set ℕ) (q : PosShare TreeShare) (pf : pre0.Contents (Elt F)) (h : Ok pf) (i : grid0.Coords)
    (hi : ¬ (pt i).val < (nu pf).toNat)
    (arg3 : Memref sig .tc .vmem S1024x256 .i32) (harg3 : arg3.IsWhole) (arg4 : Memref sig .tc .vmem S1024x256 .i32) (harg4 : arg4.IsWhole) (arg5 : Memref sig .tc .vmem S1x1024x512 .f32) (harg5 : arg5.IsWhole) (arg6 : Memref sig .tc .vmem S1x256x1024 .f32) (harg6 : arg6.IsWhole) (arg7 : Memref sig .tc .vmem S1024x512 .bf16) (harg7 : arg7.IsWhole) (arg8 : Memref sig .tc .vmem S1024x512 .bf16) (harg8 : arg8.IsWhole) (K : PUnit → sProp 𝕄) :
    iprop(tables c q pf ∗ (tables c q pf -∗ K ⟨⟩))
      ⊢ wp frame (wpE (defs₀ (F := F)) Variants.none c none) E (cc0_moe_experts i (Memref.whole main_arg2) (Memref.isWhole_whole _) (Memref.whole main_arg3) (Memref.isWhole_whole _) arg3 harg3 arg4 harg4 arg5 harg5 arg6 harg6 arg7 harg7 arg8 harg8 (Memref.whole cc0_scratch0) (Memref.isWhole_whole _) (Memref.whole cc0_scratch1) (Memref.isWhole_whole _)) K := by
  simp only [cc0_moe_experts_eq_skeleton]; unfold cc0_moe_experts_skel
  iintro ⟨⟨Hb, Hn⟩, Hk⟩
  unfold smemLoad smemLoadElt
  simp only [Prog.bind_op, Prog.bind_ret]
  iapply (wp_load_rect (defs := defs₀ (F := F)) Variants.none (c : Thread nD τ) none E (m := Memref.whole main_arg3) (r := Rect.unit (s := S1) ![0] S1.size inb_S1_S1_0) (q := q) (f := pf 1) (Finset.subset_univ _)) $$ Hn
  iintro Hn
  rw [show (((Memref.whole main_arg3).access (Rect.unit (s := S1) ![0] S1.size inb_S1_S1_0)).read (Elt F) (pf 1)) (Shape.Idx.first (numel1_S1.symm ▸ Nat.one_pos)) = nu pf from read_nu pf inb_S1_S1_0 numel1_S1]
  rw [dif_neg (fun hh => hi ((cond_iff i (nu pf) h.nu_le).mp hh))]
  rw [wp_pure]
  imodintro
  iapply Hk
  isplitl [Hb]
  · iexact Hb
  iexact Hn

/-- Element-wise, the zero offsets a whole-buffer access names. -/
theorem zeros2 : (![0, 0] : Fin 2 → Nat) = fun _ => 0 := by funext a; fin_cases a <;> rfl
theorem zeros3 : (![0, 0, 0] : Fin 3 → Nat) = fun _ => 0 := by funext a; fin_cases a <;> rfl

/-- A load of a whole buffer reads its contents. -/
theorem rd_whole {S : Shape} {e : EltTy} {sp : Space} (v : View sig .tc sp S e) {off : Fin S.rank → Nat} (h0 : off = fun _ => 0)
    (inb : ∀ a, off a + S.size a ≤ S.size a) (f : v.ty.Contents (Elt F)) :
    View.readAt (Elt F) v (Rect.unit off S.size inb).toLoadRect f = v.read (Elt F) f :=
  View.ld_unit_zero h0 inb (v.read (Elt F) f)

/-- A store over a whole buffer leaves its payload. -/
theorem left_whole {S : Shape} {e : EltTy} {sp : Space} (v : View sig .tc sp S e) {off : Fin S.rank → Nat} (h0 : off = fun _ => 0)
    (inb : ∀ a, off a + S.size a ≤ S.size a) (f : v.ty.Contents (Elt F)) (w : S.Idx → Elt F e) :
    v.read (Elt F) (v.writes (Elt F) f [⟨Rect.unit off S.size inb, w⟩]) = w :=
  (View.read_writes_eq_canon v f [⟨Rect.unit off S.size inb, w⟩] (fun y => ⟨_, List.mem_singleton_self _, View.mem_set_unit_zero h0 inb y⟩)).trans
    (View.canon_unit_zero h0 inb w)

/-- What the body leaves in the first output's buffer, from the packed rows and the expert's weights. -/
def outLo (x0 x1 : Vec F S1024x256 .i32) (x2 : Vec F S1x1024x512 .f32) (x3 : Vec F S1x256x1024 .f32) : Vec F S1024x512 .bf16 :=
  k0_pay5 x0 x1 (k0_pay2 x2) (k0_pay3 x3)

/-- and in the second. -/
def outHi (x0 x1 : Vec F S1024x256 .i32) (x2 : Vec F S1x1024x512 .f32) (x3 : Vec F S1x256x1024 .f32) : Vec F S1024x512 .bf16 :=
  k0_pay1 (k0_pay4 x0 x1 (k0_pay2 x2) (k0_pay3 x3))

set_option maxHeartbeats 2000000 in
/-- A point below the number of blocks in use. The copies of the weights either are this expert's
    already or are refilled, and the outputs' buffers end at the two halves of the block's result. -/
theorem sound_active (c : Dev nD) (E : Set ℕ) (q : PosShare TreeShare) (pf : pre0.Contents (Elt F)) (h : Ok pf) (i : grid0.Coords)
    (hi : (pt i).val < (nu pf).toNat) (b' : Fin 191) (hb' : b'.val = (pt i).val - 1)
    (arg3 : Memref sig .tc .vmem S1024x256 .i32) (harg3 : arg3.IsWhole) (arg4 : Memref sig .tc .vmem S1024x256 .i32) (harg4 : arg4.IsWhole) (arg5 : Memref sig .tc .vmem S1x1024x512 .f32) (harg5 : arg5.IsWhole) (arg6 : Memref sig .tc .vmem S1x256x1024 .f32) (harg6 : arg6.IsWhole) (arg7 : Memref sig .tc .vmem S1024x512 .bf16) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S256x1024 .bf16) (harg10 : arg10.IsWhole)
    (x0 x1 : Vec F S1024x256 .i32) (x2 : Vec F S1x1024x512 .f32) (x3 : Vec F S1x256x1024 .f32)
    (s0 : Vec F S1024x512 .bf16) (s1 : Vec F S256x1024 .bf16)
    (hkeep : ¬ ((pt i).val = 0 ∨ be pf (pt i) ≠ be pf b') → s0 = k0_pay2 x2 ∧ s1 = k0_pay3 x3) (K : PUnit → sProp 𝕄) :
    iprop(tables c q pf ∗ owns (c : Thread nD τ) arg9 fullShare s0 ∗ owns (c : Thread nD τ) arg10 fullShare s1
        ∗ owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(tables c q pf ∗ owns (c : Thread nD τ) arg9 fullShare (k0_pay2 x2) ∗ owns (c : Thread nD τ) arg10 fullShare (k0_pay3 x3)
            ∗ owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (outLo x0 x1 x2 x3) ∗ owns (c : Thread nD τ) arg8 fullShare (outHi x0 x1 x2 x3)) -∗ K ⟨⟩))
      ⊢ wp frame (wpE (defs₀ (F := F)) Variants.none c none) E (cc0_moe_experts i (Memref.whole main_arg2) (Memref.isWhole_whole _) (Memref.whole main_arg3) (Memref.isWhole_whole _) arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]; unfold k0_part1_skel
  unfold owns
  iintro ⟨⟨Hb, Hn⟩, ⟨%g0, %hg0, S0⟩, ⟨%g1, %hg1, S1⟩, ⟨%f0, %hf0, H0⟩, ⟨%f1, %hf1, H1⟩, ⟨%f2, %hf2, H2⟩, ⟨%f3, %hf3, H3⟩, ⟨%d4, %f4, -, H4⟩, ⟨%d5, %f5, -, H5⟩, Hk⟩
  unfold smemLoad smemLoadElt
  simp only [Prog.bind_op, Prog.bind_ret]
  iapply (wp_load_rect (defs := defs₀ (F := F)) Variants.none (c : Thread nD τ) none E (m := Memref.whole main_arg3) (r := Rect.unit (s := S1) ![0] S1.size inb_S1_S1_0) (q := q) (f := pf 1) (Finset.subset_univ _)) $$ Hn
  iintro Hn
  rw [show (((Memref.whole main_arg3).access (Rect.unit (s := S1) ![0] S1.size inb_S1_S1_0)).read (Elt F) (pf 1)) (Shape.Idx.first (numel1_S1.symm ▸ Nat.one_pos)) = nu pf from read_nu pf inb_S1_S1_0 numel1_S1]
  rw [dif_pos ((cond_iff i (nu pf) h.nu_le).mpr hi)]
  simp only [Prog.bind_op, Prog.bind_ret]
  iapply (wp_load_rect (defs := defs₀ (F := F)) Variants.none (c : Thread nD τ) none E (m := Memref.whole main_arg2) (r := Rect.unit (s := S191) (k0_off2 i) ![1] (k0_off2_inb i)) (q := q) (f := pf 0) (Finset.subset_univ _)) $$ Hb
  iintro Hb
  iapply (wp_load_rect (defs := defs₀ (F := F)) Variants.none (c : Thread nD τ) none E (m := Memref.whole main_arg2) (r := Rect.unit (s := S191) (k0_off3 i) ![1] (k0_off3_inb i)) (q := q) (f := pf 0) (Finset.subset_univ _)) $$ Hb
  iintro Hb
  rw [show (((Memref.whole main_arg2).access (Rect.unit (s := S191) (k0_off2 i) ![1] (k0_off2_inb i))).read (Elt F) (pf 0)) (Shape.Idx.first (numel1_S1.symm ▸ Nat.one_pos)) = be pf (pt i) from read_be pf _ (k0_off2_inb i) numel1_S1 (pt i) (off2_eq i),
    show (((Memref.whole main_arg2).access (Rect.unit (s := S191) (k0_off3 i) ![1] (k0_off3_inb i))).read (Elt F) (pf 0)) (Shape.Idx.first (numel1_S1.symm ▸ Nat.one_pos)) = be pf b' from read_be pf _ (k0_off3_inb i) numel1_S1 b' ((off3_eq i).trans hb'.symm)]
  subst hf0 hf1 hf2 hf3
  by_cases hr : (pt i).val = 0 ∨ be pf (pt i) ≠ be pf b'
  · rw [if_pos ((refill_iff i (be pf (pt i)) (be pf b')).mpr hr)]
    sl_exec
    sl_step
    iapply Hk
    isplitl [Hb Hn]
    · isplitl [Hb]
      · iexact Hb
      iexact Hn
    isplitl [S0]
    · iexists _; isplitr
      swap; · iexact S0
      ipureintro
      exact (left_whole arg9.view zeros2 inb_S1024x512_S1024x512_0_0 _ _).trans (congrArg k0_pay2 (rd_whole arg5.view zeros3 inb_S1x1024x512_S1x1024x512_0_0_0 f2))
    isplitl [S1]
    · iexists _; isplitr
      swap; · iexact S1
      ipureintro
      exact (left_whole arg10.view zeros2 inb_S256x1024_S256x1024_0_0 _ _).trans (congrArg k0_pay3 (rd_whole arg6.view zeros3 inb_S1x256x1024_S1x256x1024_0_0_0 f3))
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (left_whole arg7.view zeros2 inb_S1024x512_S1024x512_0_0 _ _).trans ?_
      show k0_pay5 _ _ _ _ = k0_pay5 _ _ _ _
      exact congr (congr (congr (congrArg k0_pay5 (rd_whole arg3.view zeros2 inb_S1024x256_S1024x256_0_0 f0)) (rd_whole arg4.view zeros2 inb_S1024x256_S1024x256_0_0 f1)) ((View.readCov_unit_zero arg9.view zeros2 inb_S1024x512_S1024x512_0_0 _).trans (congrArg k0_pay2 (rd_whole arg5.view zeros3 inb_S1x1024x512_S1x1024x512_0_0_0 f2)))) ((View.readCov_unit_zero arg10.view zeros2 inb_S256x1024_S256x1024_0_0 _).trans (congrArg k0_pay3 (rd_whole arg6.view zeros3 inb_S1x256x1024_S1x256x1024_0_0_0 f3)))
    iexists _; isplitr
    swap; · iexact H5
    ipureintro
    refine (left_whole arg8.view zeros2 inb_S1024x512_S1024x512_0_0 _ _).trans ?_
    show k0_pay1 (k0_pay4 _ _ _ _) = k0_pay1 (k0_pay4 _ _ _ _)
    exact congrArg k0_pay1 (congr (congr (congr (congrArg k0_pay4 (rd_whole arg3.view zeros2 inb_S1024x256_S1024x256_0_0 f0)) (rd_whole arg4.view zeros2 inb_S1024x256_S1024x256_0_0 f1)) ((View.readCov_unit_zero arg9.view zeros2 inb_S1024x512_S1024x512_0_0 _).trans (congrArg k0_pay2 (rd_whole arg5.view zeros3 inb_S1x1024x512_S1x1024x512_0_0_0 f2)))) ((View.readCov_unit_zero arg10.view zeros2 inb_S256x1024_S256x1024_0_0 _).trans (congrArg k0_pay3 (rd_whole arg6.view zeros3 inb_S1x256x1024_S1x256x1024_0_0_0 f3))))
  · rw [if_neg (fun hh => hr ((refill_iff i (be pf (pt i)) (be pf b')).mp hh))]
    obtain ⟨rfl, rfl⟩ := hkeep hr
    sl_exec
    sl_step
    iapply Hk
    isplitl [Hb Hn]
    · isplitl [Hb]
      · iexact Hb
      iexact Hn
    isplitl [S0]
    · iexists _; isplitr
      swap; · iexact S0
      ipureintro
      exact hg0
    isplitl [S1]
    · iexists _; isplitr
      swap; · iexact S1
      ipureintro
      exact hg1
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (left_whole arg7.view zeros2 inb_S1024x512_S1024x512_0_0 _ _).trans ?_
      show k0_pay5 _ _ _ _ = k0_pay5 _ _ _ _
      exact congr (congr (congr (congrArg k0_pay5 (rd_whole arg3.view zeros2 inb_S1024x256_S1024x256_0_0 f0)) (rd_whole arg4.view zeros2 inb_S1024x256_S1024x256_0_0 f1)) ((rd_whole arg9.view zeros2 inb_S1024x512_S1024x512_0_0 g0).trans hg0)) ((rd_whole arg10.view zeros2 inb_S256x1024_S256x1024_0_0 g1).trans hg1)
    iexists _; isplitr
    swap; · iexact H5
    ipureintro
    refine (left_whole arg8.view zeros2 inb_S1024x512_S1024x512_0_0 _ _).trans ?_
    show k0_pay1 (k0_pay4 _ _ _ _) = k0_pay1 (k0_pay4 _ _ _ _)
    exact congrArg k0_pay1 (congr (congr (congr (congrArg k0_pay4 (rd_whole arg3.view zeros2 inb_S1024x256_S1024x256_0_0 f0)) (rd_whole arg4.view zeros2 inb_S1024x256_S1024x256_0_0 f1)) ((rd_whole arg9.view zeros2 inb_S1024x512_S1024x512_0_0 g0).trans hg0)) ((rd_whole arg10.view zeros2 inb_S256x1024_S256x1024_0_0 g1).trans hg1))

end Cert.Kernel2Ideal.Hand

end
-- ==== Proof.ExpertsFrame.lean ====
module

public import proofs.«01_k».proof.Proof.ExpertsBody

/-! # The expert call's run

The pipeline's proof data at tables within bounds, the body obligation at every point, and the launch.
An output's buffer holds, at every point, the block of the last point in use up to there: past the
blocks in use the body does nothing, and the buffer is written back once more at the very last point. -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as the launch memory holds them. -/
abbrev pfm : pre0.Contents (Elt F) := fun k => m (((0 : Dev nD) : Thread nD τ).loc (pre0.ref k))

variable (h : Ok (pfm m))

/-- A core's buffers as the region finds them: the launch's. -/
abbrev V (c : Dev nD) (b : Ref sig .tc) : Buf (Elt F) ((c : Thread nD τ).loc b) := m ((c : Thread nD τ).loc b)

/-- The pipeline at the launch's tables. -/
abbrev cfgM : Pipeline.Cfg sig Λ₀ := cfgA (pfm m) h

/-- Window `w`'s block at point `t`, read off its array. -/
def iblk (c : Dev nD) (w : Fin 6) (t : Fin (cfgM m h).N) : (((cfgM m h).win w).xblock ((cfgM m h).grid.coords t)).Idx → Elt F ((cfgM m h).win w).elt :=
  (((cfgM m h).win w).blk t).view.read (Elt F) (V m c (Pipeline.arrRef spec0 w))

/-- The last point in use up to point `n`. -/
def last (n : Nat) : Fin (cfgM m h).N :=
  ⟨min n ((nu (pfm m)).toNat - 1), lt_of_lt_of_eq (by have := h.nu_le; have := h.nu_pos; omega) (N_eq (pfm m) h).symm⟩

theorem last_of_lt (t : Fin (cfgM m h).N) (ht : t.val < (nu (pfm m)).toNat) : last m h t.val = t :=
  Fin.ext (show min t.val _ = t.val by omega)

theorem last_idle (n : Nat) (hn : (nu (pfm m)).toNat ≤ n) : last m h n = last m h (n - 1) :=
  Fin.ext (show min n _ = min (n - 1) _ by have := h.nu_pos; omega)

/-- The body's two results at a point. -/
def lo (c : Dev nD) (t : Fin (cfgM m h).N) : Vec F S1024x512 .bf16 := outLo (iblk m h c 0 t) (iblk m h c 1 t) (iblk m h c 2 t) (iblk m h c 3 t)
def hi (c : Dev nD) (t : Fin (cfgM m h).N) : Vec F S1024x512 .bf16 := outHi (iblk m h c 0 t) (iblk m h c 1 t) (iblk m h c 2 t) (iblk m h c 3 t)

/-- The weights' copies before point `n`: from the second point on, those of the last expert used. -/
def copies (c : Dev nD) (n : Nat) : sProp 𝕄 :=
  iprop(∃ (s0 : Vec F S1024x512 .bf16) (s1 : Vec F S256x1024 .bf16),
    ⌜n ≠ 0 → s0 = k0_pay2 (iblk m h c 2 (last m h (n - 1))) ∧ s1 = k0_pay3 (iblk m h c 3 (last m h (n - 1)))⌝
    ∗ owns (c : Thread nD τ) (Memref.whole cc0_scratch0) fullShare s0 ∗ owns (c : Thread nD τ) (Memref.whole cc0_scratch1) fullShare s1)

/-- The invariant before point `n`: the tables' halves, the weights' copies, the generator's register. -/
def inv (c : Dev nD) (n : Nat) : sProp 𝕄 :=
  iprop(tables c fullShare.right (pfm m) ∗ copies m h c n ∗ ∃ r, prngReg c r)

/-- The pipeline's proof data. -/
def dats (_ : Fin 1) (c : Dev nD) : Dat τ (Elt F) Unit ℕ (UR sig nD τ) ℕ (cfgM m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => lo m h c (last m h t.val)
    | ⟨5, _⟩ => hi m h c (last m h t.val)
  Φ t := inv m h c t.val
  q _ := fullShare
  owed _ := 0

theorem A_eq (c : Dev nD) (w : Fin 6) : (dats m h 0 c).A w = V m c (Pipeline.arrRef spec0 w) := by
  dsimp only [dats]

theorem after_0 (c : Dev nD) (t : Fin (cfgM m h).N) : (dats m h 0 c).after 0 t = iblk m h c 0 t := by dsimp only [dats]; rfl
theorem after_1 (c : Dev nD) (t : Fin (cfgM m h).N) : (dats m h 0 c).after 1 t = iblk m h c 1 t := by dsimp only [dats]; rfl
theorem after_2 (c : Dev nD) (t : Fin (cfgM m h).N) : (dats m h 0 c).after 2 t = iblk m h c 2 t := by dsimp only [dats]; rfl
theorem after_3 (c : Dev nD) (t : Fin (cfgM m h).N) : (dats m h 0 c).after 3 t = iblk m h c 3 t := by dsimp only [dats]; rfl
theorem after_4 (c : Dev nD) (t : Fin (cfgM m h).N) : (dats m h 0 c).after 4 t = lo m h c (last m h t.val) := by dsimp only [dats]; rfl
theorem after_5 (c : Dev nD) (t : Fin (cfgM m h).N) : (dats m h 0 c).after 5 t = hi m h c (last m h t.val) := by dsimp only [dats]; rfl

/-- Each input's buffer holds its block at every point, fetched there or not. -/
theorem before_0 (c : Dev nD) (t : Fin (cfgM m h).N) (d) : (dats m h 0 c).before 0 t d = iblk m h c 0 t :=
  ((dats m h 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m h).N) (d) : (dats m h 0 c).before 1 t d = iblk m h c 1 t :=
  ((dats m h 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m h).N) (d) : (dats m h 0 c).before 2 t d = iblk m h c 2 t :=
  ((dats m h 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m h).N) (d) : (dats m h 0 c).before 3 t d = iblk m h c 3 t :=
  ((dats m h 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Past the blocks in use, an output's buffer holds what it is to be left at. -/
theorem before_4 (c : Dev nD) (t : Fin (cfgM m h).N) (ht : (nu (pfm m)).toNat ≤ t.val) (d) : (dats m h 0 c).before 4 t d = (dats m h 0 c).after 4 t := by
  have hpos := h.nu_pos
  have hlt : t.val < 191 := lt_of_lt_of_eq t.isLt (N_eq (pfm m) h)
  have e := (dats m h 0 c).before_out_traj 4 rfl (fun _ _ => rfl)
    (fun t h0 hid _ => by
      rw [idle4 (pfm m) h t] at hid
      rw [after_4, after_4]
      exact congrArg (lo m h c) (last_idle m h t.val (of_decide_eq_true hid))) t.val t rfl d
  rw [e, if_neg (by rw [fresh_row (pfm m) h 4 (.inl rfl) t.val ht hlt]; exact Bool.false_ne_true), after_4, after_4]
  exact congrArg (lo m h c) (last_idle m h t.val ht).symm
theorem before_5 (c : Dev nD) (t : Fin (cfgM m h).N) (ht : (nu (pfm m)).toNat ≤ t.val) (d) : (dats m h 0 c).before 5 t d = (dats m h 0 c).after 5 t := by
  have hpos := h.nu_pos
  have hlt : t.val < 191 := lt_of_lt_of_eq t.isLt (N_eq (pfm m) h)
  have e := (dats m h 0 c).before_out_traj 5 rfl (fun _ _ => rfl)
    (fun t h0 hid _ => by
      rw [idle5 (pfm m) h t] at hid
      rw [after_5, after_5]
      exact congrArg (hi m h c) (last_idle m h t.val (of_decide_eq_true hid))) t.val t rfl d
  rw [e, if_neg (by rw [fresh_row (pfm m) h 5 (.inr rfl) t.val ht hlt]; exact Bool.false_ne_true), after_5, after_5]
  exact congrArg (hi m h c) (last_idle m h t.val ht).symm

/-- A block of the weights is the expert's: two points of one expert have one block. -/
theorem keep_2 (c : Dev nD) (t t' : Fin (cfgM m h).N)
    (e : be (pfm m) (pt ((cfgM m h).grid.coords t)) = be (pfm m) (pt ((cfgM m h).grid.coords t'))) : iblk m h c 2 t = iblk m h c 2 t' := by
  have hx : ((cfgM m h).win 2).index t = ((cfgM m h).win 2).index t' := funext fun a => by
    exact (index_expert (pfm m) h 2 (.inl rfl) t a).trans ((congrArg (fun x : BitVec 32 => if a.val = 0 then x.toNat else 0) e).trans (index_expert (pfm m) h 2 (.inl rfl) t' a).symm)
  have k : ∀ t d, (dats m h 0 c).fetched 2 t d = iblk m h c 2 t := fun t d => by
    unfold Dat.fetched Dat.blockOf iblk; rw [A_eq]; try rfl
  exact (k t (iblk m h c 2 t)).symm.trans (((dats m h 0 c).fetched_congr 2 hx rfl _).trans (k t' _))
theorem keep_3 (c : Dev nD) (t t' : Fin (cfgM m h).N)
    (e : be (pfm m) (pt ((cfgM m h).grid.coords t)) = be (pfm m) (pt ((cfgM m h).grid.coords t'))) : iblk m h c 3 t = iblk m h c 3 t' := by
  have hx : ((cfgM m h).win 3).index t = ((cfgM m h).win 3).index t' := funext fun a => by
    exact (index_expert (pfm m) h 3 (.inr rfl) t a).trans ((congrArg (fun x : BitVec 32 => if a.val = 0 then x.toNat else 0) e).trans (index_expert (pfm m) h 3 (.inr rfl) t' a).symm)
  have k : ∀ t d, (dats m h 0 c).fetched 3 t d = iblk m h c 3 t := fun t d => by
    unfold Dat.fetched Dat.blockOf iblk; rw [A_eq]; try rfl
  exact (k t (iblk m h c 3 t)).symm.trans (((dats m h 0 c).fetched_congr 3 hx rfl _).trans (k t' _))

/-- A window's buffer at a point. -/
abbrev stg (w : Fin 6) (t : Fin (cfgM m h).N) := ((cfgM m h).win w).stage ((cfgM m h).slots t w)

/-- The body at a point, over its buffers. -/
def bodyAt (t : Fin (cfgM m h).N) : Prog (TpuEff nD τ sig (Elt F) Λ₀ .tc) PUnit :=
  cc0_moe_experts ((cfgM m h).grid.coords t) (Memref.whole main_arg2) (Memref.isWhole_whole _) (Memref.whole main_arg3) (Memref.isWhole_whole _)
    (spec0_0.stage ((cfgM m h).slots t 0)) (hstage0_0 (((cfgM m h).slots t 0).cast nbuf0_0)) (spec0_1.stage ((cfgM m h).slots t 1)) (hstage0_1 (((cfgM m h).slots t 1).cast nbuf0_1))
    (spec0_2.stage ((cfgM m h).slots t 2)) (hstage0_2 (((cfgM m h).slots t 2).cast nbuf0_2)) (spec0_3.stage ((cfgM m h).slots t 3)) (hstage0_3 (((cfgM m h).slots t 3).cast nbuf0_3))
    (spec0_4.stage ((cfgM m h).slots t 4)) (hstage0_4 (((cfgM m h).slots t 4).cast nbuf0_4)) (spec0_5.stage ((cfgM m h).slots t 5)) (hstage0_5 (((cfgM m h).slots t 5).cast nbuf0_5))
    (Memref.whole cc0_scratch0) (Memref.isWhole_whole _) (Memref.whole cc0_scratch1) (Memref.isWhole_whole _)

/-- What the body may leave of an output's buffer: past the blocks in use, what it held. -/
def left (c : Dev nD) (w : Fin 6) (t : Fin (cfgM m h).N) : sProp 𝕄 :=
  match (cfgM m h).idle w ((cfgM m h).grid.coords t) with
  | true =>
    match ((cfgM m h).win w).flush t with
    | false => iprop(∃ d, owns (c : Thread nD τ) (stg m h w t) fullShare ((dats m h 0 c).before w t d))
    | true => owns (c : Thread nD τ) (stg m h w t) fullShare ((dats m h 0 c).after w t)
  | false => owns (c : Thread nD τ) (stg m h w t) fullShare ((dats m h 0 c).after w t)

theorem left_used (c : Dev nD) (w : Fin 6) (t : Fin (cfgM m h).N) (hid : (cfgM m h).idle w ((cfgM m h).grid.coords t) = false) :
    owns (c : Thread nD τ) (stg m h w t) fullShare ((dats m h 0 c).after w t) ⊢ left m h c w t := by
  unfold left; rw [hid]

theorem left_idle (c : Dev nD) (w : Fin 6) (t : Fin (cfgM m h).N) (hid : (cfgM m h).idle w ((cfgM m h).grid.coords t) = true)
    (hb : ∀ d, (dats m h 0 c).before w t d = (dats m h 0 c).after w t) :
    iprop(∃ d, owns (c : Thread nD τ) (stg m h w t) fullShare ((dats m h 0 c).before w t d)) ⊢ left m h c w t := by
  unfold left; rw [hid]
  cases hf : ((cfgM m h).win w).flush t with
  | false => exact .rfl
  | true =>
    iintro ⟨%d, H⟩
    rw [hb d]
    iexact H

def bodyPre (c : Dev nD) (t : Fin (cfgM m h).N) : sProp 𝕄 :=
  iprop((dats m h 0 c).Φ t.castSucc ∗ (dats m h 0 c).owesAt () t.castSucc
    ∗ (∃ d, owns (c : Thread nD τ) (stg m h 0 t) fullShare ((dats m h 0 c).before 0 t d))
    ∗ (∃ d, owns (c : Thread nD τ) (stg m h 1 t) fullShare ((dats m h 0 c).before 1 t d))
    ∗ (∃ d, owns (c : Thread nD τ) (stg m h 2 t) fullShare ((dats m h 0 c).before 2 t d))
    ∗ (∃ d, owns (c : Thread nD τ) (stg m h 3 t) fullShare ((dats m h 0 c).before 3 t d))
    ∗ (∃ d, owns (c : Thread nD τ) (stg m h 4 t) fullShare ((dats m h 0 c).before 4 t d))
    ∗ (∃ d, owns (c : Thread nD τ) (stg m h 5 t) fullShare ((dats m h 0 c).before 5 t d)))

def bodyPost (c : Dev nD) (t : Fin (cfgM m h).N) : sProp 𝕄 :=
  iprop((dats m h 0 c).Φ t.succ ∗ (dats m h 0 c).owesAt () t.succ
    ∗ owns (c : Thread nD τ) (stg m h 0 t) fullShare ((dats m h 0 c).after 0 t)
    ∗ owns (c : Thread nD τ) (stg m h 1 t) fullShare ((dats m h 0 c).after 1 t)
    ∗ owns (c : Thread nD τ) (stg m h 2 t) fullShare ((dats m h 0 c).after 2 t)
    ∗ owns (c : Thread nD τ) (stg m h 3 t) fullShare ((dats m h 0 c).after 3 t)
    ∗ left m h c 4 t ∗ left m h c 5 t)

/-- A block in use: the body's triple, from the copies of the last expert used. -/
theorem body_used (c : Dev nD) (t : Fin (cfgM m h).N) (ht : t.val < (nu (pfm m)).toNat) :
    bodyPre m h c t ⊢ wp frame (wpE (defs₀ (F := F)) Variants.none c none) Set.univ (bodyAt m h t) (fun _ => bodyPost m h c t) := by
  have hpt : (pt ((cfgM m h).grid.coords t)).val = t.val := pt_coords (pfm m) h t
  have hl : last m h t.val = t := last_of_lt m h t ht
  have hl' : (last m h (t.val - 1)).val = t.val - 1 := show min (t.val - 1) _ = t.val - 1 by omega
  have hlp : (pt ((cfgM m h).grid.coords (last m h (t.val - 1)))).val = (last m h (t.val - 1)).val := pt_coords (pfm m) h (last m h (t.val - 1))
  have e4 : (cfgM m h).idle 4 ((cfgM m h).grid.coords t) = false := (idle4 (pfm m) h t).trans (decide_eq_false (by omega))
  have e5 : (cfgM m h).idle 5 ((cfgM m h).grid.coords t) = false := (idle5 (pfm m) h t).trans (decide_eq_false (by omega))
  unfold bodyPre bodyPost bodyAt
  simp only [before_0, before_1, before_2, before_3]
  rw [show (dats m h 0 c).Φ t.succ = inv m h c (t.val + 1) from rfl, show (dats m h 0 c).Φ t.castSucc = inv m h c t.val from rfl,
    show (dats m h 0 c).owesAt () t.succ = (dats m h 0 c).owesAt () t.castSucc from rfl,
    after_0, after_1, after_2, after_3]
  have k4 := left_used m h c 4 t e4
  have k5 := left_used m h c 5 t e5
  rw [after_4, hl] at k4
  rw [after_5, hl] at k5
  unfold inv copies
  rw [show t.val + 1 - 1 = t.val from rfl, hl]
  iintro ⟨⟨Ht, ⟨%s0, %s1, %hs, S0, S1⟩, Hr⟩, Ho, ⟨%d0, H0⟩, ⟨%d1, H1⟩, ⟨%d2, H2⟩, ⟨%d3, H3⟩, ⟨%d4, H4⟩, ⟨%d5, H5⟩⟩
  iapply (sound_active c Set.univ fullShare.right (pfm m) h ((cfgM m h).grid.coords t) (by omega) (pt ((cfgM m h).grid.coords (last m h (t.val - 1)))) (by omega)
    _ _ _ _ _ _ _ _ _ _ _ _ _ _ _ _ (iblk m h c 0 t) (iblk m h c 1 t) (iblk m h c 2 t) (iblk m h c 3 t) s0 s1
    (fun hn => by
      have hn' := not_or.mp hn
      have h0 : t.val ≠ 0 := fun h0 => hn'.1 (by omega)
      have hb := not_not.mp hn'.2
      exact ⟨(hs h0).1.trans (congrArg _ (keep_2 m h c t (last m h (t.val - 1)) hb).symm), (hs h0).2.trans (congrArg _ (keep_3 m h c t (last m h (t.val - 1)) hb).symm)⟩) _)
  isplitl [Ht]; · iexact Ht
  isplitl [S0]; · iexact S0
  isplitl [S1]; · iexact S1
  isplitl [H0]; · iexact H0
  isplitl [H1]; · iexact H1
  isplitl [H2]; · iexact H2
  isplitl [H3]; · iexact H3
  isplitl [H4]; · iexists _; iexact H4
  isplitl [H5]; · iexists _; iexact H5
  iintro ⟨Ht, S0, S1, H0, H1, H2, H3, H4, H5⟩
  isplitl [Ht S0 S1 Hr]
  · isplitl [Ht]; · iexact Ht
    isplitl [S0 S1]
    · iexists _, _
      isplitr
      · ipureintro; exact fun _ => ⟨rfl, rfl⟩
      isplitl [S0]; · iexact S0
      iexact S1
    iexact Hr
  isplitl [Ho]; · iexact Ho
  isplitl [H0]; · iexact H0
  isplitl [H1]; · iexact H1
  isplitl [H2]; · iexact H2
  isplitl [H3]; · iexact H3
  isplitl [H4]; · iapply k4; iexact H4
  iapply k5; iexact H5

/-- Past the blocks in use: nothing is done. -/
theorem body_idle (c : Dev nD) (t : Fin (cfgM m h).N) (ht : (nu (pfm m)).toNat ≤ t.val) :
    bodyPre m h c t ⊢ wp frame (wpE (defs₀ (F := F)) Variants.none c none) Set.univ (bodyAt m h t) (fun _ => bodyPost m h c t) := by
  have hpos := h.nu_pos
  have hpt : (pt ((cfgM m h).grid.coords t)).val = t.val := pt_coords (pfm m) h t
  have hl : last m h t.val = last m h (t.val - 1) := last_idle m h t.val ht
  have k4 := left_idle m h c 4 t ((idle4 (pfm m) h t).trans (decide_eq_true ht)) (before_4 m h c t ht)
  have k5 := left_idle m h c 5 t ((idle5 (pfm m) h t).trans (decide_eq_true ht)) (before_5 m h c t ht)
  unfold bodyPre bodyPost bodyAt
  simp only [before_0, before_1, before_2, before_3]
  rw [show (dats m h 0 c).Φ t.succ = inv m h c (t.val + 1) from rfl, show (dats m h 0 c).Φ t.castSucc = inv m h c t.val from rfl,
    show (dats m h 0 c).owesAt () t.succ = (dats m h 0 c).owesAt () t.castSucc from rfl,
    after_0, after_1, after_2, after_3]
  unfold inv copies
  rw [show t.val + 1 - 1 = t.val from rfl, hl]
  iintro ⟨⟨Ht, ⟨%s0, %s1, %hs, S0, S1⟩, Hr⟩, Ho, ⟨%d0, H0⟩, ⟨%d1, H1⟩, ⟨%d2, H2⟩, ⟨%d3, H3⟩, H4, H5⟩
  iapply (sound_idle c Set.univ fullShare.right (pfm m) h ((cfgM m h).grid.coords t) (by omega) _ _ _ _ _ _ _ _ _ _ _ _ _)
  isplitl [Ht]; · iexact Ht
  iintro Ht
  isplitl [Ht S0 S1 Hr]
  · isplitl [Ht]; · iexact Ht
    isplitl [S0 S1]
    · iexists s0, s1
      isplitr
      · ipureintro; exact fun _ => hs (by omega)
      isplitl [S0]; · iexact S0
      iexact S1
    iexact Hr
  isplitl [Ho]; · iexact Ho
  isplitl [H0]; · iexact H0
  isplitl [H1]; · iexact H1
  isplitl [H2]; · iexact H2
  isplitl [H3]; · iexact H3
  isplitl [H4]; · iapply k4; iexact H4
  iapply k5; iexact H5

theorem sound_body (c : Dev nD) (t : Fin (cfgM m h).N) :
    bodyPre m h c t ⊢ wp frame (wpE (defs₀ (F := F)) Variants.none c none) Set.univ (bodyAt m h t) (fun _ => bodyPost m h c t) := by
  by_cases ht : t.val < (nu (pfm m)).toNat
  · exact body_used m h c t ht
  · exact body_idle m h c t (Nat.le_of_not_lt ht)

theorem defs₀_row (t : Fin (cfgM m h).N) :
    defs₀ (F := F) .tc (cfgM m h).body ((cfgM m h).bodyArgs t ((cfgM m h).slots t)) = bodyAt m h t := by
  unfold defs₀; rw [Defs.onTc_tc]; rfl

theorem body_obligation (c : Dev nD) : BodyObligation (dats m h 0 c) (defs₀ (F := F)) Variants.none () Set.univ := fun t => by
  rw [bigSep_W0, bigSep_W0, defs₀_row]
  exact triple_restated (sound_body m h c t) rfl .rfl fun _ => .rfl

/-! ## The launch -/

/-- The two tables the body reads, one by one. -/
theorem prefHeld_eq (c : Dev nD) (q : PosShare TreeShare) (pf : pre0.Contents (Elt F)) :
    (Pipeline.prefHeld (Ix := Unit) (Name := ℕ) (U := UR sig nD τ) (Lvl := ℕ) pre0 c (fun _ => q) pf : sProp 𝕄) = tables c q pf :=
  bigSep_univ_eq_bigSepL [(0 : Fin 2), (1 : Fin 2)] (by decide) (by decide) _

/-- A scratch held whole at some contents is its memref held at some value, and back. -/
theorem scratch_in_0 (c : Dev nD) : iprop(∃ f : Buf (Elt F) ((c : Thread nD τ).loc cc0_scratch0), ((c : Thread nD τ).loc cc0_scratch0) ↦{fullShare} f)
    ⊢ (iprop(∃ s : Vec F S1024x512 .bf16, owns (c : Thread nD τ) (Memref.whole cc0_scratch0) fullShare s) : sProp 𝕄) := by
  iintro ⟨%f, H⟩
  iexists ((Memref.whole cc0_scratch0).view.read (Elt F) f)
  unfold owns
  iexists f
  isplitr
  · ipureintro; rfl
  rw [show (Memref.whole cc0_scratch0).view.set = Finset.univ from View.set_whole cc0_scratch0]
  iexact H
theorem scratch_in_1 (c : Dev nD) : iprop(∃ f : Buf (Elt F) ((c : Thread nD τ).loc cc0_scratch1), ((c : Thread nD τ).loc cc0_scratch1) ↦{fullShare} f)
    ⊢ (iprop(∃ s : Vec F S256x1024 .bf16, owns (c : Thread nD τ) (Memref.whole cc0_scratch1) fullShare s) : sProp 𝕄) := by
  iintro ⟨%f, H⟩
  iexists ((Memref.whole cc0_scratch1).view.read (Elt F) f)
  unfold owns
  iexists f
  isplitr
  · ipureintro; rfl
  rw [show (Memref.whole cc0_scratch1).view.set = Finset.univ from View.set_whole cc0_scratch1]
  iexact H
theorem scratch_out_0 (c : Dev nD) (s : Vec F S1024x512 .bf16) : (owns (c : Thread nD τ) (Memref.whole cc0_scratch0) fullShare s : sProp 𝕄)
    ⊢ iprop(∃ f : Buf (Elt F) ((c : Thread nD τ).loc cc0_scratch0), ((c : Thread nD τ).loc cc0_scratch0) ↦{fullShare} f) := by
  unfold owns
  iintro ⟨%f, -, H⟩
  rw [show (Memref.whole cc0_scratch0).view.set = Finset.univ from View.set_whole cc0_scratch0]
  iexists f
  iexact H
theorem scratch_out_1 (c : Dev nD) (s : Vec F S256x1024 .bf16) : (owns (c : Thread nD τ) (Memref.whole cc0_scratch1) fullShare s : sProp 𝕄)
    ⊢ iprop(∃ f : Buf (Elt F) ((c : Thread nD τ).loc cc0_scratch1), ((c : Thread nD τ).loc cc0_scratch1) ↦{fullShare} f) := by
  unfold owns
  iintro ⟨%f, -, H⟩
  rw [show (Memref.whole cc0_scratch1).view.set = Finset.univ from View.set_whole cc0_scratch1]
  iexists f
  iexact H

theorem inv_in (c : Dev nD) : iprop(Pipeline.ΦA spec0 c ∗ tables c fullShare.right (pfm m)) ⊢ inv m h c 0 := by
  unfold Pipeline.ΦA inv copies
  rw [scopedRest0_eq]
  iintro ⟨⟨⟨S0, S1⟩, Hr⟩, Ht⟩
  isplitl [Ht]; · iexact Ht
  isplitl [S0 S1]
  · ihave S0 := scratch_in_0 c $$ S0
    ihave S1 := scratch_in_1 c $$ S1
    icases S0 with ⟨%s0, S0⟩
    icases S1 with ⟨%s1, S1⟩
    iexists s0, s1
    isplitr
    · ipureintro; exact fun h0 => absurd rfl h0
    isplitl [S0]; · iexact S0
    iexact S1
  iexact Hr

theorem inv_out (c : Dev nD) (n : Nat) : inv m h c n ⊢ Pipeline.ΦA spec0 c := by
  unfold Pipeline.ΦA inv copies
  rw [scopedRest0_eq]
  iintro ⟨-, ⟨%s0, %s1, -, S0, S1⟩, Hr⟩
  isplitl [S0 S1]
  · isplitl [S0]
    · iapply scratch_out_0 c s0; iexact S0
    iapply scratch_out_1 c s1; iexact S1
  iexact Hr

/-- @main is the region. -/
theorem main_region : Pipeline.HMainP (Ix := Unit) (Name := ℕ) (U := UR sig nD τ) (Lvl := ℕ) (pcfgs (F := F)) 0 defs₀ Variants.none m (main (F := F)) (V m) :=
  Pipeline.hmainP_region (pcfgs (F := F)) 0 defs₀ Variants.none m main fun c => rfl

theorem tables_eq (c : Dev nD) (k : Fin 2) : V m c (pre0.ref k) = pfm m k := by
  obtain rfl : c = 0 := Subsingleton.elim _ _
  rfl

theorem inv_first (c : Dev nD) : iprop(Pipeline.ΦA spec0 c ∗ Pipeline.ΦT pre0 (pfm m) c) ⊢ (dats m h 0 c).Φ 0 := by
  rw [show (Pipeline.ΦT pre0 (pfm m) c : sProp 𝕄) = tables c fullShare.right (pfm m) from prefHeld_eq c fullShare.right (pfm m)]
  exact inv_in m h c

theorem inv_last (c : Dev nD) : (dats m h 0 c).Φ (Fin.last (cfgM m h).N) ⊢ Pipeline.ΦA spec0 c := inv_out m h c _

theorem obligation (c : Dev nD) : Pipeline.BodyObligationLoose (dats m h 0 c) (defs₀ (F := F)) Variants.none () Set.univ := (body_obligation m h c).loose

set_option backward.isDefEq.respectTransparency.types false in
set_option maxHeartbeats 800000 in
/-- THE LAUNCH: every array ends at what the points leave, the tables as they were, the counters at zero. -/
theorem run_main : θ_run defs (onTc (τ := τ) (main (F := F))) (s₀ m ρ) (fun r =>
    (Pipeline.FramePost (Pipeline.pin (pcfgs (F := F)) fun _ => adm (pfm m) h) (dats m h) 0 (V m)) r ∧ r.2.sem = fun _ => 0) :=
  Pipeline.θ_run_frameP_track (Q' := _) (pcfgs (F := F)) (fun _ => adm (pfm m) h) (dats m h) (0 : Fin 1) launch0 defs₀ Variants.none m ρ main
    (obligation m h) (fun c => (dats m h 0 c).share_full fun _ => rfl)
    (fun _ _ => rfl) (V m) (main_region m) (A_eq m h)
    (tables_eq m)
    (inv_first m h) (inv_last m h)

theorem rest_2 : main_arg2 ∈ Pipeline.restRefs sig spec0 := Pipeline.mem_restRefs_of main_arg2 (by decide) (by decide)
theorem rest_3 : main_arg3 ∈ Pipeline.restRefs sig spec0 := Pipeline.mem_restRefs_of main_arg3 (by decide) (by decide)

include h in
/-- THE FRAME, at tables within bounds. -/
theorem frame_of : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c =>
    ⟨((hh.1 c).1 0).trans (((dats m h 0 c).arrAt_in 0 rfl _).trans (A_eq m h c 0)),
      ((hh.1 c).1 1).trans (((dats m h 0 c).arrAt_in 1 rfl _).trans (A_eq m h c 1)),
      (hh.1 c).2 main_arg2 rest_2,
      (hh.1 c).2 main_arg3 rest_3,
      ((hh.1 c).1 2).trans (((dats m h 0 c).arrAt_in 2 rfl _).trans (A_eq m h c 2)),
      ((hh.1 c).1 3).trans (((dats m h 0 c).arrAt_in 3 rfl _).trans (A_eq m h c 3))⟩, hh.2⟩) (run_main m ρ h)

end Cert.Kernel2Ideal.Hand

end
-- ==== Proof.ExpertsSpec.lean ====
module

public import proofs.«01_k».proof.Proof.Gen.Reference2Ideal.Read
public import Idealize.ShloMosaic.Lib.Pipeline.ValueKit

/-! # A row through an expert, as a formula; and rows of a rank-3 array taken by a list -/

@[expose] public section

set_option maxRecDepth 16384

noncomputable section

namespace Cert.Kernel2Ideal.Hand

open Idealize.ShloMosaic
open Cert.Reference2Ideal
open Cert.Reference2Ideal.Read

/-- Element `k` of a row, as its words hold it: of each array the words' low halves, then their high halves. -/
def elem (x y : Fin 256 → BitVec 32) (k : Fin 1024) : EReal :=
  if h : k.val < 512 then
    if h1 : k.val < 256 then Ideal.ofBits FTy.f32 (IntOp.shli ArithUnit.host (x ⟨k.val, h1⟩) 16#32)
    else Ideal.ofBits FTy.f32 (IntOp.andi (x ⟨k.val - 256, by omega⟩) 4294901760#32)
  else
    if h1 : k.val - 512 < 256 then Ideal.ofBits FTy.f32 (IntOp.shli ArithUnit.host (y ⟨k.val - 512, h1⟩) 16#32)
    else Ideal.ofBits FTy.f32 (IntOp.andi (y ⟨k.val - 512 - 256, by omega⟩) 4294901760#32)

/-- A row against a column of weights. -/
def proj (x y : Fin 256 → BitVec 32) (w : Fin 1024 → EReal) : EReal := ∑ k : Fin 1024, elem x y k * w k

/-- The gated activation: the sigmoid-weighted first projection times the second. -/
def act (x y : Fin 256 → BitVec 32) (g u : Fin 1024 → EReal) : EReal := proj x y g * Ideal.logistic (proj x y g) * proj x y u

/-- A row through an expert, one element of it. -/
def expert (x y : Fin 256 → BitVec 32) (w : Fin 1024 → Fin 512 → EReal) (v : Fin 256 → EReal) : EReal :=
  ∑ k : Fin 256, act x y (fun i => w i ⟨k.val, by omega⟩) (fun i => w i ⟨256 + k.val, by omega⟩) * v k

section Gather
variable {α : Type}

/-- Rank-3 rows taken by a column of start indices. -/
abbrev pickDims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem pick_apply {N A B R w : Nat} (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (pickDims N A B R wf) x idx (ix3 r a b) = x (ix3 ⟨min (idx (ix2 r (0 : Fin 1))).toInt.toNat (N - 1), by omega⟩ a b) := by
  unfold Host.gather
  congr 1
  funext e
  refine Fin.ext ?_
  show (pickDims N A B R wf).start (ix3 r a b) idx e + (pickDims N A B R wf).batchCoord (ix3 r a b) e
      + (pickDims N A B R wf).offCoord (ix3 r a b) e = _
  rw [GatherDims.batchCoord_eq_zero _ _ _ List.not_mem_nil]
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N A B R wf).startIndexMap from List.mem_singleton.mpr rfl)]
    have hsi : (pickDims N A B R wf).siIdx (ix3 r a b) ⟨List.idxOf (0 : Fin 3) (pickDims N A B R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · unfold GatherDims.start GatherDims.offCoord
    rw [dif_neg (show (1 : Fin 3) ∉ (pickDims N A B R wf).startIndexMap from fun h => absurd (congrArg Fin.val (List.mem_singleton.mp h)) Nat.one_ne_zero),
      dif_pos ((GatherDims.mem_sKept _ _).mpr ⟨fun h => absurd (congrArg Fin.val (List.mem_singleton.mp h)) Nat.one_ne_zero, List.not_mem_nil⟩)]
    simp only [Nat.zero_add]
    rfl
  · unfold GatherDims.start GatherDims.offCoord
    rw [dif_neg (show (2 : Fin 3) ∉ (pickDims N A B R wf).startIndexMap from fun h => absurd (congrArg Fin.val (List.mem_singleton.mp h)) (show ¬ (2 : Nat) = 0 from Nat.succ_ne_zero 1)),
      dif_pos ((GatherDims.mem_sKept _ _).mpr ⟨fun h => absurd (congrArg Fin.val (List.mem_singleton.mp h)) (show ¬ (2 : Nat) = 0 from Nat.succ_ne_zero 1), List.not_mem_nil⟩)]
    simp only [Nat.zero_add]
    rfl

end Gather

end Cert.Kernel2Ideal.Hand

end
-- ==== Proof.ExpertsKer.lean ====
module

public import proofs.«01_k».proof.Proof.ExpertsSpec
public import proofs.«01_k».proof.Proof.Gen.Kernel2Ideal.Skeleton

/-! # The experts' kernel: its body's results at an element -/

@[expose] public section

set_option maxRecDepth 16384

noncomputable section

namespace Cert.Kernel2Ideal.Hand

open Cert.Kernel2Ideal Cert.Kernel2Ideal.Gen Idealize.ShloMosaic

theorem shl (x : BitVec 32) : IntOp.shli .vector x 16#32 = IntOp.shli .host x 16#32 := by
  simp [IntOp.shli]

theorem ker_expert (x0 x1 : Vec Ideal S1024x256 .i32) (s0 : Vec Ideal S1024x512 .bf16) (s1 : Vec Ideal S256x1024 .bf16) (r d : Fin 1024) :
    k0_pay4 x0 x1 s0 s1 (ix2 r d) = expert (fun l => x0 (ix2 r l)) (fun l => x1 (ix2 r l)) (fun k j => s0 (ix2 k j)) (fun k => s1 (ix2 k d)) := by
  unfold_payloads
  pointwise
  simp only [shl]
  rfl

theorem ker_up (x2 : Vec Ideal S1x1024x512 .f32) (k : Fin 1024) (j : Fin 512) : k0_pay2 x2 (ix2 k j) = x2 (ix3 (0 : Fin 1) k j) := by
  unfold_payloads
  pointwise

theorem ker_down (x3 : Vec Ideal S1x256x1024 .f32) (k : Fin 256) (j : Fin 1024) : k0_pay3 x3 (ix2 k j) = x3 (ix3 (0 : Fin 1) k j) := by
  unfold_payloads
  pointwise

theorem ker_hi (v : FVec Ideal S1024x1024 .f32) (r : Fin 1024) (d : Fin 512) : k0_pay1 v (ix2 r d) = v (ix2 r ⟨512 + d.val, by omega⟩) := by
  unfold_payloads
  pointwise

theorem ker_lo (x0 x1 : Vec Ideal S1024x256 .i32) (s0 : Vec Ideal S1024x512 .bf16) (s1 : Vec Ideal S256x1024 .bf16) (r : Fin 1024) (d : Fin 512) :
    k0_pay5 x0 x1 s0 s1 (ix2 r d) = k0_pay4 x0 x1 s0 s1 (ix2 r ⟨d.val, by omega⟩) := by
  unfold k0_pay5
  pointwise

end Cert.Kernel2Ideal.Hand

end
-- ==== Proof.ExpertsElem.lean ====
module

public import proofs.«01_k».proof.Proof.ExpertsSpec
public import Idealize.ShloMosaic.Lib.Pipeline.ValueKit

/-! # The experts' reference: a row's elements -/

@[expose] public section

set_option maxRecDepth 16384

noncomputable section

namespace Cert.Kernel2Ideal.Hand

open Idealize.ShloMosaic
open Cert.Reference2Ideal
open Cert.Reference2Ideal.Read

variable (a0 a1 : Vec Ideal S195584x256 .i32)

theorem ref_elem (b : Fin 191) (r k : Fin 1024) (n : Fin 195584) (hn : n.val = b.val * 1024 + r.val) :
    val_main_v15 (F := Ideal) a0 a1 (ix3 b r k) = elem (fun l => a0 (ix2 n l)) (fun l => a1 (ix2 n l)) k := by
  have hlt : b.val * 1024 + r.val < 195584 := by omega
  rw [show n = ⟨b.val * 1024 + r.val, hlt⟩ from Fin.ext hn]
  pointwise [val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2]
  rfl

end Cert.Kernel2Ideal.Hand

end
-- ==== Proof.ExpertsRef.lean ====
module

public import proofs.«01_k».proof.Proof.ExpertsElem
public import Idealize.ShloMosaic.Lib.Pipeline.ValueKit

/-! # The experts' reference, read at an element

Block `b`'s rows against the weights of the expert that the table names for it. -/

@[expose] public section

set_option maxRecDepth 16384

noncomputable section

namespace Cert.Kernel2Ideal.Hand

open Idealize.ShloMosaic
open Cert.Reference2Ideal
open Cert.Reference2Ideal.Read

section Stages

variable (a0 a1 : Vec Ideal S195584x256 .i32) (a2 : Vec Ideal S191 .i32) (a4 : Vec Ideal S64x1024x512 .f32) (a5 : Vec Ideal S64x256x1024 .f32)

theorem not_neg (x : BitVec 32) (hx : x.toNat < 64) : IntOp.cmpi .slt x 0#32 = 0#1 := by
  have : x.slt 0#32 = false := by
    rw [BitVec.slt_eq_decide, decide_eq_false_iff_not, BitVec.toInt_eq_toNat_of_lt (by omega)]
    simp
  simp [IntOp.cmpi, this]

theorem ref_word (b : Fin 191) (hx : (a2 (ix1 b)).toNat < 64) : val_main_v21 (F := Ideal) a2 (ix2 b (0 : Fin 1)) = a2 (ix1 b) := by
  pointwise [val_main_v21, val_main_v20, val_main_v19, val_main_v18, val_main_v17, val_main_v16, val_main_c_3, val_main_c_4]
  rw [not_neg _ hx]
  rfl

theorem ref_word' (b : Fin 191) (hx : (a2 (ix1 b)).toNat < 64) : val_main_v28 (F := Ideal) a2 (ix2 b (0 : Fin 1)) = a2 (ix1 b) :=
  (show val_main_v28 (F := Ideal) a2 (ix2 b (0 : Fin 1)) = val_main_v21 (F := Ideal) a2 (ix2 b (0 : Fin 1)) from rfl).trans (ref_word a2 b hx)

theorem clamp (x : BitVec 32) (hx : x.toNat < 64) : min x.toInt.toNat (64 - 1) = x.toNat := by
  rw [BitVec.toInt_eq_toNat_of_lt (by omega)]; omega

theorem ref_up (b : Fin 191) (k : Fin 1024) (j : Fin 512) (hx : (a2 (ix1 b)).toNat < 64) :
    val_main_v22 (F := Ideal) a2 a4 (ix3 b k j) = a4 (ix3 ⟨(a2 (ix1 b)).toNat, hx⟩ k j) := by
  refine (pick_apply (N := 64) (A := 1024) (B := 512) (R := 191) (by omega) _ a4 (val_main_v21 (F := Ideal) a2) b k j).trans (congrArg a4 ?_)
  congr 1
  exact Fin.ext ((congrArg (fun x : BitVec 32 => min x.toInt.toNat (64 - 1)) (ref_word a2 b hx)).trans (clamp _ hx))

theorem ref_down (b : Fin 191) (k : Fin 256) (j : Fin 1024) (hx : (a2 (ix1 b)).toNat < 64) :
    val_main_v29 (F := Ideal) a2 a5 (ix3 b k j) = a5 (ix3 ⟨(a2 (ix1 b)).toNat, hx⟩ k j) := by
  refine (pick_apply (N := 64) (A := 256) (B := 1024) (R := 191) (by omega) _ a5 (val_main_v28 (F := Ideal) a2) b k j).trans (congrArg a5 ?_)
  congr 1
  exact Fin.ext ((congrArg (fun x : BitVec 32 => min x.toInt.toNat (64 - 1)) (ref_word' a2 b hx)).trans (clamp _ hx))

theorem ref_proj (b : Fin 191) (r : Fin 1024) (j : Fin 512) (n : Fin 195584) (hn : n.val = b.val * 1024 + r.val) (hx : (a2 (ix1 b)).toNat < 64) :
    val_main_v30 (F := Ideal) a0 a1 a2 a4 (ix3 b r j)
      = proj (fun l => a0 (ix2 n l)) (fun l => a1 (ix2 n l)) (fun k => a4 (ix3 ⟨(a2 (ix1 b)).toNat, hx⟩ k j)) := by
  rw [val_main_v30_apply]
  refine Finset.sum_congr rfl fun k _ => ?_
  rw [show lidx_main_v30 (ix3 b r j) k = ix3 b r k from funext fun a => by fin_cases a <;> rfl,
    show ridx_main_v30 (ix3 b r j) k = ix3 b k j from funext fun a => by fin_cases a <;> rfl,
    ref_elem a0 a1 b r k n hn, ref_up a2 a4 b k j hx]

theorem ref_act (b : Fin 191) (r : Fin 1024) (j : Fin 256) (n : Fin 195584) (hn : n.val = b.val * 1024 + r.val) (hx : (a2 (ix1 b)).toNat < 64) :
    val_main_v34 (F := Ideal) a0 a1 a2 a4 (ix3 b r j)
      = act (fun l => a0 (ix2 n l)) (fun l => a1 (ix2 n l)) (fun k => a4 (ix3 ⟨(a2 (ix1 b)).toNat, hx⟩ k ⟨j.val, by omega⟩))
          (fun k => a4 (ix3 ⟨(a2 (ix1 b)).toNat, hx⟩ k ⟨256 + j.val, by omega⟩)) := by
  pointwise [val_main_v34, val_main_v33, val_main_v32, val_main_v31, val_main_call0_v5, val_main_call0_v4, val_main_call0_cst_0, val_main_call0_v3, val_main_call0_v2, val_main_call0_cst, val_main_call0_v1, val_main_call0_v0]
  rw [ref_proj a0 a1 a2 a4 b r _ n hn hx, ref_proj a0 a1 a2 a4 b r _ n hn hx]
  rfl

theorem ref_expert (b : Fin 191) (r d : Fin 1024) (n : Fin 195584) (hn : n.val = b.val * 1024 + r.val) (hx : (a2 (ix1 b)).toNat < 64) :
    val_main_v35 (F := Ideal) a0 a1 a2 a4 a5 (ix3 b r d)
      = expert (fun l => a0 (ix2 n l)) (fun l => a1 (ix2 n l)) (fun k j => a4 (ix3 ⟨(a2 (ix1 b)).toNat, hx⟩ k j))
          (fun k => a5 (ix3 ⟨(a2 (ix1 b)).toNat, hx⟩ k d)) := by
  rw [val_main_v35_apply]
  refine Finset.sum_congr rfl fun k _ => ?_
  rw [show lidx_main_v35 (ix3 b r d) k = ix3 b r k from funext fun a => by fin_cases a <;> rfl,
    show ridx_main_v35 (ix3 b r d) k = ix3 b k d from funext fun a => by fin_cases a <;> rfl,
    ref_act a0 a1 a2 a4 b r k n hn hx, ref_down a2 a5 b k d hx]

theorem ref_lo (b : Fin 191) (r : Fin 1024) (d : Fin 512) (n : Fin 195584) (hn : n.val = b.val * 1024 + r.val) (hx : (a2 (ix1 b)).toNat < 64) :
    val_main_v38 (F := Ideal) a0 a1 a2 a4 a5 (ix2 n d)
      = expert (fun l => a0 (ix2 n l)) (fun l => a1 (ix2 n l)) (fun k j => a4 (ix3 ⟨(a2 (ix1 b)).toNat, hx⟩ k j))
          (fun k => a5 (ix3 ⟨(a2 (ix1 b)).toNat, hx⟩ k ⟨d.val, by omega⟩)) := by
  refine Eq.trans ?_ (ref_expert a0 a1 a2 a4 a5 b r ⟨d.val, by omega⟩ n hn hx)
  pointwise [val_main_v38, val_main_v37, val_main_v36]
  congr 1
  congr 1 <;> exact Fin.ext (by show _ = _; simp only [hn]; omega)

theorem ref_hi (b : Fin 191) (r : Fin 1024) (d : Fin 512) (n : Fin 195584) (hn : n.val = b.val * 1024 + r.val) (hx : (a2 (ix1 b)).toNat < 64) :
    val_main_v39 (F := Ideal) a0 a1 a2 a4 a5 (ix2 n d)
      = expert (fun l => a0 (ix2 n l)) (fun l => a1 (ix2 n l)) (fun k j => a4 (ix3 ⟨(a2 (ix1 b)).toNat, hx⟩ k j))
          (fun k => a5 (ix3 ⟨(a2 (ix1 b)).toNat, hx⟩ k ⟨512 + d.val, by omega⟩)) := by
  refine Eq.trans ?_ (ref_expert a0 a1 a2 a4 a5 b r ⟨512 + d.val, by omega⟩ n hn hx)
  pointwise [val_main_v39, val_main_v37, val_main_v36]
  congr 1
  congr 1 <;> exact Fin.ext (by show _ = _; simp only [hn]; omega)

end Stages

end Cert.Kernel2Ideal.Hand

end
-- ==== Proof.ExpertsBlocks.lean ====
module

public import proofs.«01_k».proof.Proof.ExpertsFrame
public import proofs.«01_k».proof.Proof.ExpertsKer
public import proofs.«01_k».proof.Proof.ExpertsRef
public import Idealize.ShloMosaic.Lib.Pipeline.ValueKit

/-! # The expert call's blocks

At a point in use the windows hold the rows of that block and the weights of the block's expert, so
what the body stores is the reference's block, element by element. -/

@[expose] public section

set_option maxRecDepth 16384

noncomputable section

namespace Cert.Kernel2Ideal.Hand

open Cert.Kernel2Ideal Cert.Kernel2Ideal.Gen Idealize.ShloMosaic Idealize.ShloMosaic.TcCoe
open Idealize.ShloMosaic.Pipeline (Dat)
open Cert.Reference2Ideal.Read

variable (m : (ℓ : Loc nD τ sig) → Buf (Elt Ideal) ℓ) (h : Ok (pfm m))

/-- The block a point works on. -/
abbrev blockOf (t : Fin (cfgM m h).N) : Fin 191 := pt ((cfgM m h).grid.coords t)

theorem rows_0 (c : Dev nD) (t : Fin (cfgM m h).N) (ht : t.val < (nu (pfm m)).toNat) (r : Fin 1024) (l : Fin 256) (n : Fin 195584)
    (hn : n.val = t.val * 1024 + r.val) : iblk m h c 0 t (ix2 r l) = m ((c : Thread nD τ).loc main_arg0) (ix2 n l) := by
  show m ((c : Thread nD τ).loc main_arg0) ((((cfgM m h).win 0).blk t).view.emb (ix2 r l)) = _
  refine congrArg (m ((c : Thread nD τ).loc main_arg0)) (funext fun a => Fin.ext ?_)
  refine (Pipeline.Window.rect_emb_val ((cfgM m h).win 0) t (ix2 r l) a rfl).trans ?_
  have e := index_row (pfm m) h 0 (.inl rfl) t a
  refine (congrArg (· * _ + _) e).trans ?_
  fin_cases a
  · show min t.val ((nu (pfm m)).toNat - 1) * 1024 + r.val = n.val
    omega
  · show 0 * 256 + l.val = l.val
    omega

theorem rows_1 (c : Dev nD) (t : Fin (cfgM m h).N) (ht : t.val < (nu (pfm m)).toNat) (r : Fin 1024) (l : Fin 256) (n : Fin 195584)
    (hn : n.val = t.val * 1024 + r.val) : iblk m h c 1 t (ix2 r l) = m ((c : Thread nD τ).loc main_arg1) (ix2 n l) := by
  show m ((c : Thread nD τ).loc main_arg1) ((((cfgM m h).win 1).blk t).view.emb (ix2 r l)) = _
  refine congrArg (m ((c : Thread nD τ).loc main_arg1)) (funext fun a => Fin.ext ?_)
  refine (Pipeline.Window.rect_emb_val ((cfgM m h).win 1) t (ix2 r l) a rfl).trans ?_
  have e := index_row (pfm m) h 1 (.inr (.inl rfl)) t a
  refine (congrArg (· * _ + _) e).trans ?_
  fin_cases a
  · show min t.val ((nu (pfm m)).toNat - 1) * 1024 + r.val = n.val
    omega
  · show 0 * 256 + l.val = l.val
    omega

theorem up_at (c : Dev nD) (t : Fin (cfgM m h).N) (k : Fin 1024) (j : Fin 512) (e : Fin 64) (he : e.val = (be (pfm m) (blockOf m h t)).toNat) :
    iblk m h c 2 t (ix3 (0 : Fin 1) k j) = m ((c : Thread nD τ).loc main_arg4) (ix3 e k j) := by
  show m ((c : Thread nD τ).loc main_arg4) ((((cfgM m h).win 2).blk t).view.emb (ix3 (0 : Fin 1) k j)) = _
  refine congrArg (m ((c : Thread nD τ).loc main_arg4)) (funext fun a => Fin.ext ?_)
  refine (Pipeline.Window.rect_emb_val ((cfgM m h).win 2) t (ix3 (0 : Fin 1) k j) a rfl).trans ?_
  have e' := index_expert (pfm m) h 2 (.inl rfl) t a
  refine (congrArg (· * _ + _) e').trans ?_
  fin_cases a
  · show (be (pfm m) (blockOf m h t)).toNat * 1 + 0 = e.val
    omega
  · show 0 * 1024 + k.val = k.val
    omega
  · show 0 * 512 + j.val = j.val
    omega

theorem down_at (c : Dev nD) (t : Fin (cfgM m h).N) (k : Fin 256) (j : Fin 1024) (e : Fin 64) (he : e.val = (be (pfm m) (blockOf m h t)).toNat) :
    iblk m h c 3 t (ix3 (0 : Fin 1) k j) = m ((c : Thread nD τ).loc main_arg5) (ix3 e k j) := by
  show m ((c : Thread nD τ).loc main_arg5) ((((cfgM m h).win 3).blk t).view.emb (ix3 (0 : Fin 1) k j)) = _
  refine congrArg (m ((c : Thread nD τ).loc main_arg5)) (funext fun a => Fin.ext ?_)
  refine (Pipeline.Window.rect_emb_val ((cfgM m h).win 3) t (ix3 (0 : Fin 1) k j) a rfl).trans ?_
  have e' := index_expert (pfm m) h 3 (.inr rfl) t a
  refine (congrArg (· * _ + _) e').trans ?_
  fin_cases a
  · show (be (pfm m) (blockOf m h t)).toNat * 1 + 0 = e.val
    omega
  · show 0 * 256 + k.val = k.val
    omega
  · show 0 * 1024 + j.val = j.val
    omega

/-- The table's word for a block is the argument's. -/
theorem be_eq (c : Dev nD) (b : Fin 191) : be (pfm m) b = m ((c : Thread nD τ).loc main_arg2) (ix1 b) := by
  obtain rfl : c = 0 := Subsingleton.elim _ _
  unfold be
  refine congrArg (m (((0 : Dev nD) : Thread nD τ).loc main_arg2)) (funext fun a => ?_)
  fin_cases a
  rfl

include h in
theorem word_lt (c : Dev nD) (b : Fin 191) : (m ((c : Thread nD τ).loc main_arg2) (ix1 b)).toNat < 64 := by
  rw [← be_eq m c b]
  exact h.be_lt b

/-- A row through the stored expert is the row through the reference's. -/
theorem expert_at (c : Dev nD) (t : Fin (cfgM m h).N) (ht : t.val < (nu (pfm m)).toNat) (r d : Fin 1024) (n : Fin 195584)
    (hn : n.val = t.val * 1024 + r.val) :
    k0_pay4 (iblk m h c 0 t) (iblk m h c 1 t) (k0_pay2 (iblk m h c 2 t)) (k0_pay3 (iblk m h c 3 t)) (ix2 r d)
      = expert (fun l => m ((c : Thread nD τ).loc main_arg0) (ix2 n l)) (fun l => m ((c : Thread nD τ).loc main_arg1) (ix2 n l))
          (fun k j => m ((c : Thread nD τ).loc main_arg4) (ix3 ⟨(m ((c : Thread nD τ).loc main_arg2) (ix1 (blockOf m h t))).toNat, word_lt m h c _⟩ k j))
          (fun k => m ((c : Thread nD τ).loc main_arg5) (ix3 ⟨(m ((c : Thread nD τ).loc main_arg2) (ix1 (blockOf m h t))).toNat, word_lt m h c _⟩ k d)) := by
  have hb := congrArg BitVec.toNat (be_eq m c (blockOf m h t))
  refine (ker_expert _ _ _ _ r d).trans ?_
  refine congr (congr (congr (congrArg expert (funext fun l => rows_0 m h c t ht r l n hn)) (funext fun l => rows_1 m h c t ht r l n hn))
    (funext fun k => funext fun j => (ker_up _ k j).trans (up_at m h c t k j _ hb.symm)))
    (funext fun k => (ker_down _ k d).trans (down_at m h c t k d _ hb.symm))

/-- The block's first half is the reference's. -/
theorem lo_at (c : Dev nD) (t : Fin (cfgM m h).N) (ht : t.val < (nu (pfm m)).toNat) (r : Fin 1024) (d : Fin 512) (n : Fin 195584)
    (hn : n.val = t.val * 1024 + r.val) :
    lo m h c t (ix2 r d) = val_main_v38 (F := Ideal) (m ((c : Thread nD τ).loc main_arg0)) (m ((c : Thread nD τ).loc main_arg1))
      (m ((c : Thread nD τ).loc main_arg2)) (m ((c : Thread nD τ).loc main_arg4)) (m ((c : Thread nD τ).loc main_arg5)) (ix2 n d) := by
  have hp : (blockOf m h t).val = t.val := pt_coords (pfm m) h t
  unfold lo outLo
  refine (ker_lo _ _ _ _ r d).trans ((expert_at m h c t ht r ⟨d.val, by omega⟩ n hn).trans ?_)
  exact (ref_lo _ _ _ _ _ (blockOf m h t) r d n (by rw [hp]; exact hn) (word_lt m h c _)).symm

/-- The block's second half is the reference's. -/
theorem hi_at (c : Dev nD) (t : Fin (cfgM m h).N) (ht : t.val < (nu (pfm m)).toNat) (r : Fin 1024) (d : Fin 512) (n : Fin 195584)
    (hn : n.val = t.val * 1024 + r.val) :
    hi m h c t (ix2 r d) = val_main_v39 (F := Ideal) (m ((c : Thread nD τ).loc main_arg0)) (m ((c : Thread nD τ).loc main_arg1))
      (m ((c : Thread nD τ).loc main_arg2)) (m ((c : Thread nD τ).loc main_arg4)) (m ((c : Thread nD τ).loc main_arg5)) (ix2 n d) := by
  have hp : (blockOf m h t).val = t.val := pt_coords (pfm m) h t
  unfold hi outHi
  refine (ker_hi _ r d).trans ((expert_at m h c t ht r ⟨512 + d.val, by omega⟩ n hn).trans ?_)
  exact (ref_hi _ _ _ _ _ (blockOf m h t) r d n (by rw [hp]; exact hn) (word_lt m h c _)).symm

end Cert.Kernel2Ideal.Hand

end
-- ==== Proof.Experts.lean ====
module

public import proofs.«01_k».proof.Defs
public import proofs.«01_k».proof.Proof.ExpertsBlocks
public import proofs.«01_k».proof.Proof.Gen.Reference2Ideal.Run
public import proofs.«01_k».proof.Proof.Gen.Reference2Ideal.Read
public import proofs.«01_k».proof.Proof.Gen.Pre_blocks_of_experts
public import proofs.«01_k».proof.Proof.Gen.On_rows_in_use

/-! # The expert call's value

The precondition bounds the two tables. Every block in use is written back holding the reference's
block, so the results agree on the rows of the blocks in use. -/

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)
open Cert.Reference2Ideal.Read

/-! ## The tables -/

section Tables
variable {F : FTy → Type} [FloatOps F]

theorem scalar_apply (x : IVec S1 32) (hc : S1.ShapeCasts (⟨0, ![]⟩ : Shape)) (i : (⟨0, ![]⟩ : Shape).Idx) : shapeCast (⟨0, ![]⟩ : Shape) x hc i = x (ix1 (0 : Fin 1)) := by
  unfold shapeCast
  refine congrArg x (funext fun a => ?_)
  fin_cases a
  exact Subsingleton.elim (α := Fin 1) _ _

/-- What the precondition says of the two tables' words. -/
theorem words_of_pre (a0 a1 : IVec S195584x256 32) (a2 : IVec S191 32) (a3 : IVec S1 32) (a4 : FVec F S64x1024x512 .f32) (a5 : FVec F S64x256x1024 .f32)
    (hp : Cert.Pre_blocks_of_experts.fn (F := F) a0 a1 a2 a3 a4 a5 = fun _ => 1#1) (b : Fin 191) :
    (a2 (ix1 b)).toNat < 64 ∧ 1 ≤ (a3 (ix1 (0 : Fin 1))).toNat ∧ (a3 (ix1 (0 : Fin 1))).toNat ≤ 191 := by
  have andb (p q : Bool) : IntOp.andi (BitVec.ofBool p) (BitVec.ofBool q) = BitVec.ofBool (p && q) := by
    cases p <;> cases q <;> decide
  have oneb (p : Bool) : (BitVec.ofBool p = 1#1) ↔ p = true := by cases p <;> decide
  have e := congrFun hp (ix1 b)
  simp only [Cert.Pre_blocks_of_experts.fn, andi, cmpi, broadcastInDim, constantI, scalar_apply] at e
  simp only [IntOp.cmpi, andb, oneb, Bool.and_eq_true, BitVec.sle_eq_decide, BitVec.slt_eq_decide,
    decide_eq_true_eq, BitVec.toInt_eq_toNat_cond, BitVec.toNat_ofNat, Nat.reducePow, Nat.reduceMod] at e
  have h2 := (a2 (ix1 b)).isLt
  have h3 := (a3 (ix1 (0 : Fin 1))).isLt
  omega

theorem nu_eq (m : (ℓ : Loc nD τ sig) → Buf (Elt F) ℓ) (c : Dev nD) : nu (pfm m) = m ((c : Thread nD τ).loc main_arg3) (ix1 (0 : Fin 1)) := by
  obtain rfl : c = 0 := Subsingleton.elim _ _
  unfold nu
  refine congrArg (m (((0 : Dev nD) : Thread nD τ).loc main_arg3)) (funext fun a => ?_)
  fin_cases a
  rfl

theorem be_word (m : (ℓ : Loc nD τ sig) → Buf (Elt F) ℓ) (b : Fin 191) : be (pfm m) b = m (((0 : Dev nD) : Thread nD τ).loc main_arg2) (ix1 b) := by
  unfold be
  refine congrArg (m (((0 : Dev nD) : Thread nD τ).loc main_arg2)) (funext fun a => ?_)
  fin_cases a
  rfl

/-- The precondition bounds the tables. -/
theorem ok_of_pre (m : (ℓ : Loc nD τ sig) → Buf (Elt F) ℓ)
    (hp : ∀ c : Dev nD, Cert.Pre_blocks_of_experts.fn (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) : Ok (pfm m) := by
  have w := words_of_pre (F := F) _ _ _ _ _ _ (hp 0)
  exact ⟨fun b => by rw [be_word]; exact (w b).1, by rw [nu_eq m 0]; exact (w 0).2.1, by rw [nu_eq m 0]; exact (w 0).2.2⟩

/-- A row the mask selects lies in a block in use. -/
theorem row_lt (a3 : IVec S1 32) (h3 : (a3 (ix1 (0 : Fin 1))).toNat ≤ 191) (n : Fin 195584)
    (hm : IntOp.cmpi .slt (BitVec.ofNat 32 n.val) (IntOp.muli (a3 (ix1 (0 : Fin 1))) 1024#32) = 1#1) :
    n.val < (a3 (ix1 (0 : Fin 1))).toNat * 1024 := by
  have oneb (p : Bool) : (BitVec.ofBool p = 1#1) ↔ p = true := by cases p <;> decide
  have hmul : (IntOp.muli (a3 (ix1 (0 : Fin 1))) 1024#32).toNat = (a3 (ix1 (0 : Fin 1))).toNat * 1024 := by
    show (a3 (ix1 (0 : Fin 1)) * 1024#32).toNat = _
    rw [BitVec.toNat_mul, BitVec.toNat_ofNat]
    omega
  have hn : (BitVec.ofNat 32 n.val).toNat = n.val := by
    rw [BitVec.toNat_ofNat]
    omega
  have hs := slt_small (BitVec.ofNat 32 n.val) (IntOp.muli (a3 (ix1 (0 : Fin 1))) 1024#32) (by omega) (by omega)
  rw [hn, hmul] at hs
  have hm' := (oneb _).mp hm
  rw [hs] at hm'
  exact of_decide_eq_true hm'

theorem mask_lo (a0 a1 : IVec S195584x256 32) (a2 : IVec S191 32) (a3 : IVec S1 32) (a4 : FVec F S64x1024x512 .f32) (a5 : FVec F S64x256x1024 .f32)
    (h3 : (a3 (ix1 (0 : Fin 1))).toNat ≤ 191) (n : Fin 195584) (d : Fin 512)
    (hm : (Cert.On_rows_in_use.fn (F := F) a0 a1 a2 a3 a4 a5).1 (ix2 n d) = 1#1) : n.val < (a3 (ix1 (0 : Fin 1))).toNat * 1024 := by
  refine row_lt a3 h3 n ?_
  simp only [Cert.On_rows_in_use.fn, cmpi, muli, broadcastInDim, constantI, scalar_apply] at hm
  exact hm

theorem mask_hi (a0 a1 : IVec S195584x256 32) (a2 : IVec S191 32) (a3 : IVec S1 32) (a4 : FVec F S64x1024x512 .f32) (a5 : FVec F S64x256x1024 .f32)
    (h3 : (a3 (ix1 (0 : Fin 1))).toNat ≤ 191) (n : Fin 195584) (d : Fin 512)
    (hm : (Cert.On_rows_in_use.fn (F := F) a0 a1 a2 a3 a4 a5).2 (ix2 n d) = 1#1) : n.val < (a3 (ix1 (0 : Fin 1))).toNat * 1024 := by
  refine row_lt a3 h3 n ?_
  simp only [Cert.On_rows_in_use.fn, cmpi, muli, broadcastInDim, constantI, scalar_apply] at hm
  exact hm

end Tables

/-! ## The arrays after the run -/

variable (m : (ℓ : Loc nD τ sig) → Buf (Elt Ideal) ℓ) (h : Ok (pfm m))

/-- The two reference results at the launch's arguments. -/
abbrev refLo (c : Dev nD) : Vec Ideal S195584x512 .bf16 := val_main_v38 (F := Ideal) (m ((c : Thread nD τ).loc main_arg0)) (m ((c : Thread nD τ).loc main_arg1))
  (m ((c : Thread nD τ).loc main_arg2)) (m ((c : Thread nD τ).loc main_arg4)) (m ((c : Thread nD τ).loc main_arg5))
abbrev refHi (c : Dev nD) : Vec Ideal S195584x512 .bf16 := val_main_v39 (F := Ideal) (m ((c : Thread nD τ).loc main_arg0)) (m ((c : Thread nD τ).loc main_arg1))
  (m ((c : Thread nD τ).loc main_arg2)) (m ((c : Thread nD τ).loc main_arg4)) (m ((c : Thread nD τ).loc main_arg5))

theorem last_lt (t : Fin (cfgM m h).N) : (last m h t.val).val < (nu (pfm m)).toNat := by
  have := h.nu_pos
  show min t.val ((nu (pfm m)).toNat - 1) < _
  omega

/-- An element of the block written back at point `t`, placed in the array. -/
theorem emb_4 (t : Fin (cfgM m h).N) (r : Fin 1024) (d : Fin 512) (n : Fin 195584) (hn : n.val = (last m h t.val).val * 1024 + r.val) :
    (((cfgM m h).win 4).blk t).view.emb (ix2 r d) = ix2 n d := by
  refine funext fun a => Fin.ext ?_
  refine (Pipeline.Window.rect_emb_val ((cfgM m h).win 4) t (ix2 r d) a rfl).trans ?_
  have e := index_row (pfm m) h 4 (.inr (.inr (.inl rfl))) t a
  refine (congrArg (· * _ + _) e).trans ?_
  fin_cases a
  · exact hn.symm
  · show 0 * 512 + d.val = d.val
    omega

theorem emb_5 (t : Fin (cfgM m h).N) (r : Fin 1024) (d : Fin 512) (n : Fin 195584) (hn : n.val = (last m h t.val).val * 1024 + r.val) :
    (((cfgM m h).win 5).blk t).view.emb (ix2 r d) = ix2 n d := by
  refine funext fun a => Fin.ext ?_
  refine (Pipeline.Window.rect_emb_val ((cfgM m h).win 5) t (ix2 r d) a rfl).trans ?_
  have e := index_row (pfm m) h 5 (.inr (.inr (.inr rfl))) t a
  refine (congrArg (· * _ + _) e).trans ?_
  fin_cases a
  · exact hn.symm
  · show 0 * 512 + d.val = d.val
    omega

/-- A block in use is written back at some point. -/
theorem exists_flush (q : Nat) (hq : q < (nu (pfm m)).toNat) (w : Fin 6) (hw : w = 4 ∨ w = 5) :
    ∃ t : Fin (cfgM m h).N, ((cfgM m h).win w).flush t = true ∧ (last m h t.val).val = q := by
  have hle := h.nu_le
  have hN : (cfgM m h).N = 191 := N_eq (pfm m) h
  by_cases hc : q + 1 < (nu (pfm m)).toNat
  · refine ⟨⟨q, lt_of_lt_of_eq (by omega) hN.symm⟩, (flush_row (pfm m) h w hw _).trans (decide_eq_true (.inr hc)), ?_⟩
    show min q ((nu (pfm m)).toNat - 1) = q
    omega
  · refine ⟨⟨190, lt_of_lt_of_eq (by omega) hN.symm⟩, (flush_row (pfm m) h w hw _).trans (decide_eq_true (.inl rfl)), ?_⟩
    show min 190 ((nu (pfm m)).toNat - 1) = q
    omega

theorem final_4 (c : Dev nD) (n : Fin 195584) (d : Fin 512) (hn : n.val < (nu (pfm m)).toNat * 1024) :
    (dats m h 0 c).arrAt 4 (cfgM m h).N (ix2 n d) = refLo m c (ix2 n d) := by
  obtain ⟨t, hf, ht⟩ := exists_flush m h (n.val / 1024) (by omega) 4 (.inl rfl)
  refine (dats m h 0 c).arrAt_forall_of_flushed 4 (fun i v => v = refLo m c i) ?_ (cfgM m h).N t (ix2 n d) t.isLt hf
    (Finset.mem_map.mpr ⟨ix2 (⟨n.val % 1024, by omega⟩ : Fin 1024) d, Finset.mem_univ _, emb_4 m h t _ d n (by rw [ht]; show n.val = _ * 1024 + n.val % 1024; omega)⟩)
  intro t hf (y : S1024x512.Idx)
  obtain ⟨r, d, rfl⟩ : ∃ (r : Fin 1024) (d : Fin 512), y = ix2 r d := ⟨y 0, y 1, eq_ix2 y⟩
  have hl := last_lt m h t
  have hle := h.nu_le
  have e := emb_4 m h t r d ⟨(last m h t.val).val * 1024 + r.val, by omega⟩ rfl
  refine Eq.trans ?_ (congrArg (refLo m c) e).symm
  refine Eq.trans ?_ (lo_at m h c (last m h t.val) hl r d _ rfl)
  exact congrFun (after_4 m h c t) (ix2 r d)

theorem final_5 (c : Dev nD) (n : Fin 195584) (d : Fin 512) (hn : n.val < (nu (pfm m)).toNat * 1024) :
    (dats m h 0 c).arrAt 5 (cfgM m h).N (ix2 n d) = refHi m c (ix2 n d) := by
  obtain ⟨t, hf, ht⟩ := exists_flush m h (n.val / 1024) (by omega) 5 (.inr rfl)
  refine (dats m h 0 c).arrAt_forall_of_flushed 5 (fun i v => v = refHi m c i) ?_ (cfgM m h).N t (ix2 n d) t.isLt hf
    (Finset.mem_map.mpr ⟨ix2 (⟨n.val % 1024, by omega⟩ : Fin 1024) d, Finset.mem_univ _, emb_5 m h t _ d n (by rw [ht]; show n.val = _ * 1024 + n.val % 1024; omega)⟩)
  intro t hf (y : S1024x512.Idx)
  obtain ⟨r, d, rfl⟩ : ∃ (r : Fin 1024) (d : Fin 512), y = ix2 r d := ⟨y 0, y 1, eq_ix2 y⟩
  have hl := last_lt m h t
  have hle := h.nu_le
  have e := emb_5 m h t r d ⟨(last m h t.val).val * 1024 + r.val, by omega⟩ rfl
  refine Eq.trans ?_ (congrArg (refHi m c) e).symm
  refine Eq.trans ?_ (hi_at m h c (last m h t.val) hl r d _ rfl)
  exact congrFun (after_5 m h c t) (ix2 r d)

/-! ## The claim -/

theorem value : Cert.algebraic_Kernel2Ideal_Reference2Ideal_on_rows_in_use := by
  intro m ρ m' ρ' hpre hm
  have h : Ok (pfm m) := ok_of_pre m hpre
  refine ⟨fun c => refLo m c, fun c => refHi m c, ?_, ?_⟩
  · refine (θ_run defs _ _).mono (fun r hh c => ?_) (run_main m ρ h)
    have h3 : (m ((c : Thread nD τ).loc main_arg3) (ix1 (0 : Fin 1))).toNat ≤ 191 := by rw [← nu_eq m c]; exact h.nu_le
    refine ⟨fun i hi => ?_, fun i hi => ?_,
      ((hh.1 c).1 0).trans (((dats m h 0 c).arrAt_in 0 rfl _).trans (A_eq m h c 0)),
      ((hh.1 c).1 1).trans (((dats m h 0 c).arrAt_in 1 rfl _).trans (A_eq m h c 1)),
      (hh.1 c).2 main_arg2 rest_2,
      (hh.1 c).2 main_arg3 rest_3,
      ((hh.1 c).1 2).trans (((dats m h 0 c).arrAt_in 2 rfl _).trans (A_eq m h c 2)),
      ((hh.1 c).1 3).trans (((dats m h 0 c).arrAt_in 3 rfl _).trans (A_eq m h c 3))⟩
    · obtain ⟨n, d, rfl⟩ : ∃ (n : Fin 195584) (d : Fin 512), i = ix2 n d := ⟨i 0, i 1, eq_ix2 i⟩
      have hn := mask_lo _ _ _ _ _ _ h3 n d hi
      rw [← nu_eq m c] at hn
      exact (congrFun ((hh.1 c).1 4) (ix2 n d)).trans (final_4 m h c n d hn)
    · obtain ⟨n, d, rfl⟩ : ∃ (n : Fin 195584) (d : Fin 512), i = ix2 n d := ⟨i 0, i 1, eq_ix2 i⟩
      have hn := mask_hi _ _ _ _ _ _ h3 n d hi
      rw [← nu_eq m c] at hn
      exact (congrFun ((hh.1 c).1 5) (ix2 n d)).trans (final_5 m h c n d hn)
  · refine (θ_run Cert.Reference2Ideal.defs _ _).mono (fun r hh c => ?_) (Cert.Reference2Ideal.Value.run (F := Ideal) m' ρ')
    obtain ⟨h0, h1, h2, h3, h4, h5⟩ := hm c
    obtain ⟨e1, e2, ha⟩ := hh c
    refine ⟨fun i _ => ?_, fun i _ => ?_, ha⟩
    · refine (congrFun e1 i).trans ((congrFun (val_main_v38_eq (F := Ideal) _ _) i).trans ?_)
      rw [h0, h1, h2, h4, h5]
    · refine (congrFun e2 i).trans ((congrFun (val_main_v39_eq (F := Ideal) _ _) i).trans ?_)
      rw [h0, h1, h2, h4, h5]

end Cert.Kernel2Ideal.Hand

end
-- ==== Proof.lean ====
/-
  The claims: the gather's run (Run.lean, once, over any float values) and its reference's value (Rows.lean) put together, and the
  values of the experts (Experts.lean), of the weighted sum (Combine.lean) and of the compression (Compress.lean) beside their frames.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_of_table
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_blocks_of_experts
public import proofs.«01_k».proof.Proof.Gen.On_rows_in_use
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Rows
public import proofs.«01_k».proof.Proof.Combine
public import proofs.«01_k».proof.Proof.Compress
public import proofs.«01_k».proof.Proof.Experts
public import Idealize.ShloMosaic.Adequacy
public import Idealize.ShloMosaic.Init

@[expose] public section

set_option maxRecDepth 16384

noncomputable section

namespace Cert.Proof

open Idealize.ShloMosaic Idealize.SL.Sem

theorem ok_of_pre {F : FTy → Type} [FloatOps F] (m : (ℓ : Loc Cert.KernelIdeal.nD Cert.KernelIdeal.τ Cert.KernelIdeal.sig) → Buf (Elt F) ℓ)
    (h : ∀ d : Dev Cert.KernelIdeal.nD, Cert.Pre_rows_of_table.fn (F := F) (m (xLoc d)) (m (jLoc d)) = fun _ => 1#1) : PreOK m :=
  fun d _ => small_of_pre (F := F) (m (xLoc d)) (m (jLoc d)) (h d) _

theorem frame_ideal : Cert.quiescent_KernelIdeal := fun m ρ hpre =>
  (θ_run Cert.KernelIdeal.defs _ _).mono (fun _ h => ⟨fun c => ⟨(h.1 c).1, (h.1 c).2.1⟩, h.2⟩) (run_main (F := Ideal) m ρ (ok_of_pre m hpre))

theorem frame_bits : Cert.quiescent_Kernel := fun m ρ hpre =>
  (θ_run Cert.KernelIdeal.defs _ _).mono (fun _ h => ⟨fun c => ⟨(h.1 c).1, (h.1 c).2.1⟩, h.2⟩) (run_main (F := Bits) m ρ (ok_of_pre m hpre))

theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ref_bits : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

theorem value_ideal : Cert.algebraic_KernelIdeal_ReferenceIdeal := by
  intro m ρ m' ρ' hpre hm
  refine ⟨fun c => res m c, ?_, ?_⟩
  · exact (θ_run Cert.KernelIdeal.defs _ _).mono (fun _ h c => ⟨(h.1 c).2.2, (h.1 c).1, (h.1 c).2.1⟩) (run_main (F := Ideal) m ρ (ok_of_pre m hpre))
  · refine (θ_run Cert.ReferenceIdeal.defs _ _).mono (fun r h c => ⟨(h c).1.trans ?_, (h c).2.1, (h c).2.2⟩) (Cert.ReferenceIdeal.Value.run (F := Ideal) m' ρ')
    rw [(hm c).1, (hm c).2]
    exact ref_rows _ (m (xLoc c)) (m (jLoc c)) (small_of_pre (F := Ideal) _ _ (hpre c)) _ _

theorem value_bits : Cert.bitexact_Kernel_Reference := by
  intro m ρ m' ρ' hpre hm
  refine ⟨fun c => res (F := Bits) m c, ?_, ?_⟩
  · exact (θ_run Cert.KernelIdeal.defs _ _).mono (fun _ h c => ⟨(h.1 c).2.2, (h.1 c).1, (h.1 c).2.1⟩) (run_main (F := Bits) m ρ (ok_of_pre m hpre))
  · refine (θ_run Cert.Reference.defs _ _).mono (fun r h c => ⟨(h c).1.trans ?_, (h c).2.1, (h c).2.2⟩) (Cert.Reference.Value.run (F := Bits) m' ρ')
    rw [(hm c).1, (hm c).2]
    exact ref_rows _ (m (xLoc c)) (m (jLoc c)) (small_of_pre (F := Bits) _ _ (hpre c)) _ _

theorem frame2_ideal : Cert.quiescent_Kernel2Ideal := fun m ρ hpre =>
  Cert.Kernel2Ideal.Hand.frame_of (F := Ideal) m ρ (Cert.Kernel2Ideal.Hand.ok_of_pre m hpre)

/-- The printed program and its idealization run the same body. -/
theorem bodies2 : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) =>
    dsimp only
    have e : @Cert.Kernel2.cc0_moe_experts Bits _ _ = @Cert.Kernel2Ideal.cc0_moe_experts Bits _ _ := rfl
    exact congrFun (congrFun (congrFun (congrFun (congrFun (congrFun (congrFun (congrFun (congrFun (congrFun (congrFun (congrFun (congrFun (congrFun (congrFun (congrFun (congrFun (congrFun (congrFun (congrFun (congrFun e _) _) _) _) _) _) _) _) _) _) _) _) _) _) _) _) _) _) _) _) _

theorem defs2 : Cert.Kernel2.defs (F := Bits) = Cert.Kernel2Ideal.defs (F := Bits) := by
  unfold Cert.Kernel2.defs Cert.Kernel2Ideal.defs
  exact congrArg (Pipeline.defs (Cert.Kernel2Ideal.pcfgs (F := Bits))) bodies2

theorem frame2_bits : Cert.quiescent_Kernel2 := fun m ρ hpre => by
  have h := Cert.Kernel2Ideal.Hand.frame_of (F := Bits) m ρ (Cert.Kernel2Ideal.Hand.ok_of_pre m hpre)
  rw [← defs2] at h
  exact h

theorem frame_ref2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ref4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_rows_of_table.Gen.facts,
  Cert.Pre_blocks_of_experts.Gen.facts, Cert.On_rows_in_use.Gen.facts,
  frame_bits, frame_ideal, frame_ref, fun m ρ _ => frame_ref m ρ trivial, frame_ref_bits,
  frame2_bits, frame2_ideal, frame_ref2, fun m ρ _ => frame_ref2 m ρ trivial,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  trivial, value_ideal, value_bits, trivial, Cert.Kernel2Ideal.Hand.value, trivial, Cert.Kernel3Ideal.Hand.value, trivial, Cert.Kernel4Ideal.Hand.value⟩

end Cert.Proof

end
